-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S50000x128 : Shape := ⟨2, ![50000, 128]⟩
abbrev S2x1600000 : Shape := ⟨2, ![2, 1600000]⟩
abbrev S50000 : Shape := ⟨1, ![50000]⟩
abbrev S64x1 : Shape := ⟨2, ![64, 1]⟩
abbrev S4x128x256 : Shape := ⟨3, ![4, 128, 256]⟩
abbrev S4x256 : Shape := ⟨2, ![4, 256]⟩
abbrev S4x256x1 : Shape := ⟨3, ![4, 256, 1]⟩
abbrev S4x1 : Shape := ⟨2, ![4, 1]⟩
abbrev S4x256x124 : Shape := ⟨3, ![4, 256, 124]⟩
abbrev S4x124 : Shape := ⟨2, ![4, 124]⟩
abbrev S1x50000 : Shape := ⟨2, ![1, 50000]⟩
abbrev S128x4x256 : Shape := ⟨3, ![128, 4, 256]⟩
abbrev S128x1024 : Shape := ⟨2, ![128, 1024]⟩
abbrev S128x2048 : Shape := ⟨2, ![128, 2048]⟩
abbrev S1x1024 : Shape := ⟨2, ![1, 1024]⟩
abbrev S1x2048 : Shape := ⟨2, ![1, 2048]⟩
abbrev S4 : Shape := ⟨1, ![4]⟩
abbrev S_ : Shape := ⟨0, ![]⟩
abbrev S4x256x4 : Shape := ⟨3, ![4, 256, 4]⟩
abbrev S4x2 : Shape := ⟨2, ![4, 2]⟩
abbrev S1024x4 : Shape := ⟨2, ![1024, 4]⟩
abbrev S1x4 : Shape := ⟨2, ![1, 4]⟩
abbrev S4x1x124 : Shape := ⟨3, ![4, 1, 124]⟩
abbrev S4x64x124 : Shape := ⟨3, ![4, 64, 124]⟩
abbrev S4096x128 : Shape := ⟨2, ![4096, 128]⟩
abbrev S1x4096 : Shape := ⟨2, ![1, 4096]⟩
abbrev S64x4 : Shape := ⟨2, ![64, 4]⟩
abbrev S4096x1 : Shape := ⟨2, ![4096, 1]⟩
abbrev S4096x2048 : Shape := ⟨2, ![4096, 2048]⟩
abbrev S4096x1024 : Shape := ⟨2, ![4096, 1024]⟩
abbrev S4096x4 : Shape := ⟨2, ![4096, 4]⟩
abbrev S4096x64 : Shape := ⟨2, ![4096, 64]⟩
abbrev S4096x256 : Shape := ⟨2, ![4096, 256]⟩
abbrev S1x256x124 : Shape := ⟨3, ![1, 256, 124]⟩
abbrev S256x124 : Shape := ⟨2, ![256, 124]⟩
abbrev S4096x124 : Shape := ⟨2, ![4096, 124]⟩
abbrev S64x124 : Shape := ⟨2, ![64, 124]⟩
abbrev S1x64x124 : Shape := ⟨3, ![1, 64, 124]⟩
abbrev S1x1 : Shape := ⟨2, ![1, 1]⟩
abbrev S1x1x124 : Shape := ⟨3, ![1, 1, 124]⟩
abbrev S1x124 : Shape := ⟨2, ![1, 124]⟩
abbrev S64x4x124 : Shape := ⟨3, ![64, 4, 124]⟩
abbrev S64x496 : Shape := ⟨2, ![64, 496]⟩
abbrev S64x503 : Shape := ⟨2, ![64, 503]⟩

abbrev nBuf : Space → Nat
  | .hbm => 60
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S50000, .i32⟩
  | .hbm, ⟨3, _⟩ => ⟨S64x1, .f32⟩
  | .hbm, ⟨4, _⟩ => ⟨S64x1, .f32⟩
  | .hbm, ⟨5, _⟩ => ⟨S64x1, .f32⟩
  | .hbm, ⟨6, _⟩ => ⟨S64x1, .f32⟩
  | .hbm, ⟨7, _⟩ => ⟨S64x1, .f32⟩
  | .hbm, ⟨8, _⟩ => ⟨S64x1, .f32⟩
  | .hbm, ⟨9, _⟩ => ⟨S64x1, .f32⟩
  | .hbm, ⟨10, _⟩ => ⟨S4x128x256, .f32⟩
  | .hbm, ⟨11, _⟩ => ⟨S4x256, .f32⟩
  | .hbm, ⟨12, _⟩ => ⟨S4x256x1, .f32⟩
  | .hbm, ⟨13, _⟩ => ⟨S4x1, .f32⟩
  | .hbm, ⟨14, _⟩ => ⟨S4x128x256, .f32⟩
  | .hbm, ⟨15, _⟩ => ⟨S4x256, .f32⟩
  | .hbm, ⟨16, _⟩ => ⟨S4x256x124, .f32⟩
  | .hbm, ⟨17, _⟩ => ⟨S4x124, .f32⟩
  | .hbm, ⟨18, _⟩ => ⟨S50000, .f32⟩
  | .hbm, ⟨19, _⟩ => ⟨S1x50000, .f32⟩
  | .hbm, ⟨20, _⟩ => ⟨S128x4x256, .f32⟩
  | .hbm, ⟨21, _⟩ => ⟨S128x1024, .f32⟩
  | .hbm, ⟨22, _⟩ => ⟨S128x4x256, .f32⟩
  | .hbm, ⟨23, _⟩ => ⟨S128x1024, .f32⟩
  | .hbm, ⟨24, _⟩ => ⟨S128x2048, .f32⟩
  | .hbm, ⟨25, _⟩ => ⟨S128x2048, .bf16⟩
  | .hbm, ⟨26, _⟩ => ⟨S1x1024, .f32⟩
  | .hbm, ⟨27, _⟩ => ⟨S1x1024, .f32⟩
  | .hbm, ⟨28, _⟩ => ⟨S1x2048, .f32⟩
  | .hbm, ⟨29, _⟩ => ⟨S4, .i32⟩
  | .hbm, ⟨30, _⟩ => ⟨S_, .f32⟩
  | .hbm, ⟨31, _⟩ => ⟨S4x256x4, .f32⟩
  | .hbm, ⟨32, _⟩ => ⟨S4x256, .f32⟩
  | .hbm, ⟨33, _⟩ => ⟨S_, .i32⟩
  | .hbm, ⟨34, _⟩ => ⟨S4, .i32⟩
  | .hbm, ⟨35, _⟩ => ⟨S4, .i1⟩
  | .hbm, ⟨36, _⟩ => ⟨S_, .i32⟩
  | .hbm, ⟨37, _⟩ => ⟨S4, .i32⟩
  | .hbm, ⟨38, _⟩ => ⟨S4, .i32⟩
  | .hbm, ⟨39, _⟩ => ⟨S4, .i32⟩
  | .hbm, ⟨40, _⟩ => ⟨S_, .i32⟩
  | .hbm, ⟨41, _⟩ => ⟨S4, .i32⟩
  | .hbm, ⟨42, _⟩ => ⟨S4, .i1⟩
  | .hbm, ⟨43, _⟩ => ⟨S_, .i32⟩
  | .hbm, ⟨44, _⟩ => ⟨S4, .i32⟩
  | .hbm, ⟨45, _⟩ => ⟨S4, .i32⟩
  | .hbm, ⟨46, _⟩ => ⟨S4, .i32⟩
  | .hbm, ⟨47, _⟩ => ⟨S4x1, .i32⟩
  | .hbm, ⟨48, _⟩ => ⟨S4x1, .i32⟩
  | .hbm, ⟨49, _⟩ => ⟨S4x2, .i32⟩
  | .hbm, ⟨50, _⟩ => ⟨S4x256x4, .f32⟩
  | .hbm, ⟨51, _⟩ => ⟨S1024x4, .f32⟩
  | .hbm, ⟨52, _⟩ => ⟨S1024x4, .bf16⟩
  | .hbm, ⟨53, _⟩ => ⟨S1x4, .f32⟩
  | .hbm, ⟨54, _⟩ => ⟨S4x1x124, .f32⟩
  | .hbm, ⟨55, _⟩ => ⟨S4x256x124, .bf16⟩
  | .hbm, ⟨56, _⟩ => ⟨S4x64x124, .f32⟩
  | .hbm, ⟨57, _⟩ => ⟨S64x4x124, .f32⟩
  | .hbm, ⟨58, _⟩ => ⟨S64x496, .f32⟩
  | .hbm, ⟨59, _⟩ => ⟨S64x503, .f32⟩
  | .local _ .vmem, ⟨0, _⟩ => ⟨S4096x128, .f32⟩
  | .local _ .vmem, ⟨1, _⟩ => ⟨S4096x128, .f32⟩
  | .local _ .vmem, ⟨2, _⟩ => ⟨S1x4096, .f32⟩
  | .local _ .vmem, ⟨3, _⟩ => ⟨S1x4096, .f32⟩
  | .local _ .vmem, ⟨4, _⟩ => ⟨S128x2048, .bf16⟩
  | .local _ .vmem, ⟨5, _⟩ => ⟨S1x2048, .f32⟩
  | .local _ .vmem, ⟨6, _⟩ => ⟨S1024x4, .bf16⟩
  | .local _ .vmem, ⟨7, _⟩ => ⟨S1x4, .f32⟩
  | .local _ .vmem, ⟨8, _⟩ => ⟨S4x256x124, .bf16⟩
  | .local _ .vmem, ⟨9, _⟩ => ⟨S4x1x124, .f32⟩
  | .local _ .vmem, ⟨10, _⟩ => ⟨S4x64x124, .f32⟩
  | .local _ .vmem, ⟨11, _⟩ => ⟨S1x4, .f32⟩
  | .local _ .vmem, ⟨12, _⟩ => ⟨S64x4, .f32⟩
  | .local _ .vmem, ⟨13, _⟩ => ⟨S4x64x124, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_1 : Ref sig .tc := ⟨.hbm, 40, rfl⟩
abbrev main_v19 : Ref sig .tc := ⟨.hbm, 41, rfl⟩
abbrev main_v20 : Ref sig .tc := ⟨.hbm, 42, rfl⟩
abbrev main_c_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![13], ![false]⟩

def k0_cond2 (i : grid0.Coords) : BitVec 1 :=
  let arg0 : BitVec 32 := BitVec.ofNat 32 (i 0).val
  let c12_i32 : BitVec 32 := 12#32
  let v138 : BitVec 1 := Scalar.cmpi .eq arg0 c12_i32
  let v139 : BitVec 32 := Scalar.extui v138
  let c0_i32_67 : BitVec 32 := 0#32
  let v140 : BitVec 1 := Scalar.cmpi .ne v139 c0_i32_67
  v140

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x124 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1x124 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x64x124 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S50000x128 : Shape := ⟨2, ![50000, 128]⟩
abbrev S2x1600000 : Shape := ⟨2, ![2, 1600000]⟩
abbrev S50000 : Shape := ⟨1, ![50000]⟩
abbrev S64x1 : Shape := ⟨2, ![64, 1]⟩
abbrev S4x128x256 : Shape := ⟨3, ![4, 128, 256]⟩
abbrev S4x256 : Shape := ⟨2, ![4, 256]⟩
abbrev S4x256x1 : Shape := ⟨3, ![4, 256, 1]⟩
abbrev S4x1 : Shape := ⟨2, ![4, 1]⟩
abbrev S4x256x124 : Shape := ⟨3, ![4, 256, 124]⟩
abbrev S4x124 : Shape := ⟨2, ![4, 124]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x1 : Shape := ⟨3, ![1, 256, 1]⟩
abbrev S256x1 : Shape := ⟨2, ![256, 1]⟩
abbrev S1x1 : Shape := ⟨2, ![1, 1]⟩
abbrev S1 : Shape := ⟨1, ![1]⟩
abbrev S1x256x124 : Shape := ⟨3, ![1, 256, 124]⟩
abbrev S256x124 : Shape := ⟨2, ![256, 124]⟩
abbrev S1x124 : Shape := ⟨2, ![1, 124]⟩
abbrev S124 : Shape := ⟨1, ![124]⟩
abbrev S50000x256 : Shape := ⟨2, ![50000, 256]⟩
abbrev S_ : Shape := ⟨0, ![]⟩
abbrev S50000x1 : Shape := ⟨2, ![50000, 1]⟩
abbrev S50000x124 : Shape := ⟨2, ![50000, 124]⟩
abbrev S64 : Shape := ⟨1, ![64]⟩
abbrev S64x124 : Shape := ⟨2, ![64, 124]⟩
abbrev S64x503 : Shape := ⟨2, ![64, 503]⟩

abbrev nBuf : Space → Nat
  | .hbm => 291
  | .vmem => 0
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S64x1, .f32⟩
  | 4 => ⟨S64x1, .f32⟩
  | 5 => ⟨S64x1, .f32⟩
  | 6 => ⟨S64x1, .f32⟩
  | 7 => ⟨S64x1, .f32⟩
  | 8 => ⟨S64x1, .f32⟩
  | 9 => ⟨S64x1, .f32⟩
  | 10 => ⟨S4x128x256, .f32⟩
  | 11 => ⟨S4x256, .f32⟩
  | 12 => ⟨S4x256x1, .f32⟩
  | 13 => ⟨S4x1, .f32⟩
  | 14 => ⟨S4x128x256, .f32⟩
  | 15 => ⟨S4x256, .f32⟩
  | 16 => ⟨S4x256x124, .f32⟩
  | 17 => ⟨S4x124, .f32⟩
  | 18 => ⟨S1x128x256, .f32⟩
  | 19 => ⟨S128x256, .f32⟩
  | 20 => ⟨S1x256, .f32⟩
  | 21 => ⟨S256, .f32⟩
  | 22 => ⟨S1x256x1, .f32⟩
  | 23 => ⟨S256x1, .f32⟩
  | 24 => ⟨S1x1, .f32⟩
  | 25 => ⟨S1, .f32⟩
  | 26 => ⟨S1x128x256, .f32⟩
  | 27 => ⟨S128x256, .f32⟩
  | 28 => ⟨S1x256, .f32⟩
  | 29 => ⟨S256, .f32⟩
  | 30 => ⟨S1x256x124, .f32⟩
  | 31 => ⟨S256x124, .f32⟩
  | 32 => ⟨S1x124, .f32⟩
  | 33 => ⟨S124, .f32⟩
  | 34 => ⟨S50000x256, .f32⟩
  | 35 => ⟨S1x256, .f32⟩
  | 36 => ⟨S50000x256, .f32⟩
  | 37 => ⟨S50000x256, .f32⟩
  | 38 => ⟨S_, .f32⟩
  | 39 => ⟨S50000x256, .f32⟩
  | 40 => ⟨S50000x256, .f32⟩
  | 41 => ⟨S50000x1, .f32⟩
  | 42 => ⟨S1x1, .f32⟩
  | 43 => ⟨S50000x1, .f32⟩
  | 44 => ⟨S50000x1, .f32⟩
  | 45 => ⟨S50000x256, .f32⟩
  | 46 => ⟨S1x256, .f32⟩
  | 47 => ⟨S50000x256, .f32⟩
  | 48 => ⟨S50000x256, .f32⟩
  | 49 => ⟨S_, .f32⟩
  | 50 => ⟨S50000x256, .f32⟩
  | 51 => ⟨S50000x256, .f32⟩
  | 52 => ⟨S50000x124, .f32⟩
  | 53 => ⟨S1x124, .f32⟩
  | 54 => ⟨S50000x124, .f32⟩
  | 55 => ⟨S50000x124, .f32⟩
  | 56 => ⟨S50000, .f32⟩
  | 57 => ⟨S_, .f32⟩
  | 58 => ⟨S_, .f32⟩
  | 59 => ⟨S50000, .f32⟩
  | 60 => ⟨S50000, .f32⟩
  | 61 => ⟨S50000, .f32⟩
  | 62 => ⟨S_, .f32⟩
  | 63 => ⟨S64, .f32⟩
  | 64 => ⟨S50000x1, .i32⟩
  | 65 => ⟨S64, .f32⟩
  | 66 => ⟨S_, .i32⟩
  | 67 => ⟨S50000, .i32⟩
  | 68 => ⟨S50000, .i1⟩
  | 69 => ⟨S_, .i32⟩
  | 70 => ⟨S50000, .i32⟩
  | 71 => ⟨S50000, .i32⟩
  | 72 => ⟨S50000, .i32⟩
  | 73 => ⟨S50000x1, .i32⟩
  | 74 => ⟨S50000, .f32⟩
  | 75 => ⟨S_, .f32⟩
  | 76 => ⟨S50000, .f32⟩
  | 77 => ⟨S50000, .f32⟩
  | 78 => ⟨S50000, .f32⟩
  | 79 => ⟨S50000x1, .f32⟩
  | 80 => ⟨S50000x124, .f32⟩
  | 81 => ⟨S50000x124, .f32⟩
  | 82 => ⟨S_, .f32⟩
  | 83 => ⟨S64x124, .f32⟩
  | 84 => ⟨S50000x1, .i32⟩
  | 85 => ⟨S64x124, .f32⟩
  | 86 => ⟨S1x128x256, .f32⟩
  | 87 => ⟨S128x256, .f32⟩
  | 88 => ⟨S1x256, .f32⟩
  | 89 => ⟨S256, .f32⟩
  | 90 => ⟨S1x256x1, .f32⟩
  | 91 => ⟨S256x1, .f32⟩
  | 92 => ⟨S1x1, .f32⟩
  | 93 => ⟨S1, .f32⟩
  | 94 => ⟨S1x128x256, .f32⟩
  | 95 => ⟨S128x256, .f32⟩
  | 96 => ⟨S1x256, .f32⟩
  | 97 => ⟨S256, .f32⟩
  | 98 => ⟨S1x256x124, .f32⟩
  | 99 => ⟨S256x124, .f32⟩
  | 100 => ⟨S1x124, .f32⟩
  | 101 => ⟨S124, .f32⟩
  | 102 => ⟨S50000x256, .f32⟩
  | 103 => ⟨S1x256, .f32⟩
  | 104 => ⟨S50000x256, .f32⟩
  | 105 => ⟨S50000x256, .f32⟩
  | 106 => ⟨S_, .f32⟩
  | 107 => ⟨S50000x256, .f32⟩
  | 108 => ⟨S50000x256, .f32⟩
  | 109 => ⟨S50000x1, .f32⟩
  | 110 => ⟨S1x1, .f32⟩
  | 111 => ⟨S50000x1, .f32⟩
  | 112 => ⟨S50000x1, .f32⟩
  | 113 => ⟨S50000x256, .f32⟩
  | 114 => ⟨S1x256, .f32⟩
  | 115 => ⟨S50000x256, .f32⟩
  | 116 => ⟨S50000x256, .f32⟩
  | 117 => ⟨S_, .f32⟩
  | 118 => ⟨S50000x256, .f32⟩
  | 119 => ⟨S50000x256, .f32⟩
  | 120 => ⟨S50000x124, .f32⟩
  | 121 => ⟨S1x124, .f32⟩
  | 122 => ⟨S50000x124, .f32⟩
  | 123 => ⟨S50000x124, .f32⟩
  | 124 => ⟨S50000, .f32⟩
  | 125 => ⟨S_, .f32⟩
  | 126 => ⟨S_, .f32⟩
  | 127 => ⟨S50000, .f32⟩
  | _ => ⟨S50000x128, .f32⟩

abbrev hbmTy0_1 (i : Nat) : BufTy := match i % 128 with
  | 0 => ⟨S50000, .f32⟩
  | 1 => ⟨S50000, .f32⟩
  | 2 => ⟨S_, .f32⟩
  | 3 => ⟨S64, .f32⟩
  | 4 => ⟨S50000x1, .i32⟩
  | 5 => ⟨S64, .f32⟩
  | 6 => ⟨S_, .i32⟩
  | 7 => ⟨S50000, .i32⟩
  | 8 => ⟨S50000, .i1⟩
  | 9 => ⟨S_, .i32⟩
  | 10 => ⟨S50000, .i32⟩
  | 11 => ⟨S50000, .i32⟩
  | 12 => ⟨S50000, .i32⟩
  | 13 => ⟨S50000x1, .i32⟩
  | 14 => ⟨S50000, .f32⟩
  | 15 => ⟨S_, .f32⟩
  | 16 => ⟨S50000, .f32⟩
  | 17 => ⟨S50000, .f32⟩
  | 18 => ⟨S50000, .f32⟩
  | 19 => ⟨S50000x1, .f32⟩
  | 20 => ⟨S50000x124, .f32⟩
  | 21 => ⟨S50000x124, .f32⟩
  | 22 => ⟨S_, .f32⟩
  | 23 => ⟨S64x124, .f32⟩
  | 24 => ⟨S50000x1, .i32⟩
  | 25 => ⟨S64x124, .f32⟩
  | 26 => ⟨S1x128x256, .f32⟩
  | 27 => ⟨S128x256, .f32⟩
  | 28 => ⟨S1x256, .f32⟩
  | 29 => ⟨S256, .f32⟩
  | 30 => ⟨S1x256x1, .f32⟩
  | 31 => ⟨S256x1, .f32⟩
  | 32 => ⟨S1x1, .f32⟩
  | 33 => ⟨S1, .f32⟩
  | 34 => ⟨S1x128x256, .f32⟩
  | 35 => ⟨S128x256, .f32⟩
  | 36 => ⟨S1x256, .f32⟩
  | 37 => ⟨S256, .f32⟩
  | 38 => ⟨S1x256x124, .f32⟩
  | 39 => ⟨S256x124, .f32⟩
  | 40 => ⟨S1x124, .f32⟩
  | 41 => ⟨S124, .f32⟩
  | 42 => ⟨S50000x256, .f32⟩
  | 43 => ⟨S1x256, .f32⟩
  | 44 => ⟨S50000x256, .f32⟩
  | 45 => ⟨S50000x256, .f32⟩
  | 46 => ⟨S_, .f32⟩
  | 47 => ⟨S50000x256, .f32⟩
  | 48 => ⟨S50000x256, .f32⟩
  | 49 => ⟨S50000x1, .f32⟩
  | 50 => ⟨S1x1, .f32⟩
  | 51 => ⟨S50000x1, .f32⟩
  | 52 => ⟨S50000x1, .f32⟩
  | 53 => ⟨S50000x256, .f32⟩
  | 54 => ⟨S1x256, .f32⟩
  | 55 => ⟨S50000x256, .f32⟩
  | 56 => ⟨S50000x256, .f32⟩
  | 57 => ⟨S_, .f32⟩
  | 58 => ⟨S50000x256, .f32⟩
  | 59 => ⟨S50000x256, .f32⟩
  | 60 => ⟨S50000x124, .f32⟩
  | 61 => ⟨S1x124, .f32⟩
  | 62 => ⟨S50000x124, .f32⟩
  | 63 => ⟨S50000x124, .f32⟩
  | 64 => ⟨S50000, .f32⟩
  | 65 => ⟨S_, .f32⟩
  | 66 => ⟨S_, .f32⟩
  | 67 => ⟨S50000, .f32⟩
  | 68 => ⟨S50000, .f32⟩
  | 69 => ⟨S50000, .f32⟩
  | 70 => ⟨S_, .f32⟩
  | 71 => ⟨S64, .f32⟩
  | 72 => ⟨S50000x1, .i32⟩
  | 73 => ⟨S64, .f32⟩
  | 74 => ⟨S_, .i32⟩
  | 75 => ⟨S50000, .i32⟩
  | 76 => ⟨S50000, .i1⟩
  | 77 => ⟨S_, .i32⟩
  | 78 => ⟨S50000, .i32⟩
  | 79 => ⟨S50000, .i32⟩
  | 80 => ⟨S50000, .i32⟩
  | 81 => ⟨S50000x1, .i32⟩
  | 82 => ⟨S50000, .f32⟩
  | 83 => ⟨S_, .f32⟩
  | 84 => ⟨S50000, .f32⟩
  | 85 => ⟨S50000, .f32⟩
  | 86 => ⟨S50000, .f32⟩
  | 87 => ⟨S50000x1, .f32⟩
  | 88 => ⟨S50000x124, .f32⟩
  | 89 => ⟨S50000x124, .f32⟩
  | 90 => ⟨S_, .f32⟩
  | 91 => ⟨S64x124, .f32⟩
  | 92 => ⟨S50000x1, .i32⟩
  | 93 => ⟨S64x124, .f32⟩
  | 94 => ⟨S1x128x256, .f32⟩
  | 95 => ⟨S128x256, .f32⟩
  | 96 => ⟨S1x256, .f32⟩
  | 97 => ⟨S256, .f32⟩
  | 98 => ⟨S1x256x1, .f32⟩
  | 99 => ⟨S256x1, .f32⟩
  | 100 => ⟨S1x1, .f32⟩
  | 101 => ⟨S1, .f32⟩
  | 102 => ⟨S1x128x256, .f32⟩
  | 103 => ⟨S128x256, .f32⟩
  | 104 => ⟨S1x256, .f32⟩
  | 105 => ⟨S256, .f32⟩
  | 106 => ⟨S1x256x124, .f32⟩
  | 107 => ⟨S256x124, .f32⟩
  | 108 => ⟨S1x124, .f32⟩
  | 109 => ⟨S124, .f32⟩
  | 110 => ⟨S50000x256, .f32⟩
  | 111 => ⟨S1x256, .f32⟩
  | 112 => ⟨S50000x256, .f32⟩
  | 113 => ⟨S50000x256, .f32⟩
  | 114 => ⟨S_, .f32⟩
  | 115 => ⟨S50000x256, .f32⟩
  | 116 => ⟨S50000x256, .f32⟩
  | 117 => ⟨S50000x1, .f32⟩
  | 118 => ⟨S1x1, .f32⟩
  | 119 => ⟨S50000x1, .f32⟩
  | 120 => ⟨S50000x1, .f32⟩
  | 121 => ⟨S50000x256, .f32⟩
  | 122 => ⟨S1x256, .f32⟩
  | 123 => ⟨S50000x256, .f32⟩
  | 124 => ⟨S50000x256, .f32⟩
  | 125 => ⟨S_, .f32⟩
  | 126 => ⟨S50000x256, .f32⟩
  | 127 => ⟨S50000x256, .f32⟩
  | _ => ⟨S50000x128, .f32⟩

abbrev hbmTy0_2 (i : Nat) : BufTy := match i % 128 with
  | 0 => ⟨S50000x124, .f32⟩
  | 1 => ⟨S1x124, .f32⟩
  | 2 => ⟨S50000x124, .f32⟩
  | 3 => ⟨S50000x124, .f32⟩
  | 4 => ⟨S50000, .f32⟩
  | 5 => ⟨S_, .f32⟩
  | 6 => ⟨S_, .f32⟩
  | 7 => ⟨S50000, .f32⟩
  | 8 => ⟨S50000, .f32⟩
  | 9 => ⟨S50000, .f32⟩
  | 10 => ⟨S_, .f32⟩
  | 11 => ⟨S64, .f32⟩
  | 12 => ⟨S50000x1, .i32⟩
  | 13 => ⟨S64, .f32⟩
  | 14 => ⟨S_, .i32⟩
  | 15 => ⟨S50000, .i32⟩
  | 16 => ⟨S50000, .i1⟩
  | 17 => ⟨S_, .i32⟩
  | 18 => ⟨S50000, .i32⟩
  | 19 => ⟨S50000, .i32⟩
  | 20 => ⟨S50000, .i32⟩
  | 21 => ⟨S50000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S50000x1, .f32⟩
  | 28 => ⟨S50000x124, .f32⟩
  | 29 => ⟨S50000x124, .f32⟩
  | 30 => ⟨S_, .f32⟩
  | 31 => ⟨S64x124, .f32⟩
  | 32 => ⟨S50000x1, .i32⟩
  | 33 => ⟨S64x124, .f32⟩
  | 34 => ⟨S64x503, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_1 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_2 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c : Ref sig .tc := ⟨.hbm, 66, rfl⟩
abbrev main_v44 : Ref sig .tc := ⟨.hbm, 67, rfl⟩
abbrev main_v45 : Ref sig .tc := ⟨.hbm, 68, rfl⟩
abbrev main_c_3 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_4 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_5 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_6 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_7 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_8 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_9 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_c_10 : Ref sig .tc := ⟨.hbm, 134, rfl⟩
abbrev main_v104 : Ref sig .tc := ⟨.hbm, 135, rfl⟩
abbrev main_v105 : Ref sig .tc := ⟨.hbm, 136, rfl⟩
abbrev main_c_11 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_cst_12 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_13 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_cst_14 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_cst_15 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_cst_16 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_cst_17 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_c_18 : Ref sig .tc := ⟨.hbm, 202, rfl⟩
abbrev main_v164 : Ref sig .tc := ⟨.hbm, 203, rfl⟩
abbrev main_v165 : Ref sig .tc := ⟨.hbm, 204, rfl⟩
abbrev main_c_19 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_cst_20 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_cst_21 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_cst_22 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_v209 : Ref sig .tc := ⟨.hbm, 252, rfl⟩
abbrev main_cst_23 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_cst_24 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_cst_25 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_c_26 : Ref sig .tc := ⟨.hbm, 270, rfl⟩
abbrev main_v224 : Ref sig .tc := ⟨.hbm, 271, rfl⟩
abbrev main_v225 : Ref sig .tc := ⟨.hbm, 272, rfl⟩
abbrev main_c_27 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_cst_28 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩
abbrev main_cst_29 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩

abbrev nD : Nat := 1
abbrev τ : Topo := Topo.v7x

variable {F : FTy → Type} [FloatOps F]
-- ==== Proof.KernelBody.lean ====
/-
  One call of the compiled kernel's body, whatever its buffers hold.

  The body reads eight staged inputs, keeps three scratch buffers (the running maximum, the running denominators, the
  running numerators) and, at the last point of the grid only, stores the result block. Here nothing is said of the
  values: the body ends, the inputs' buffers hold what they held and every other buffer holds something. That is all the
  frame claim needs.
-/
module

public import proofs.«01_k».proof.Proof.Gen.Kernel.Frame
public import proofs.«01_k».proof.Proof.Gen.Kernel.Skeleton

@[expose] public section

set_option maxRecDepth 16384

noncomputable section

namespace Cert.KernelRun

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition under which the body resets its scratch buffers, at grid coordinates `i`. -/
abbrev first (i : grid0.Coords) : Prop :=
  (Scalar.cmpi .ne (Scalar.extui (Scalar.cmpi .eq (BitVec.ofNat 32 (i 0).val) 0#32)) 0#32) = 1#1

/-- The condition under which the body stores its result, at grid coordinates `i`. -/
abbrev last (i : grid0.Coords) : Prop := k0_cond2 i = 1#1

/-- A whole buffer of the body at some contents. -/
abbrev some_ (c : Dev nD) {s : Shape} {e : EltTy} (a : Memref sig .tc .vmem s e) : sProp 𝕄 :=
  iprop(∃ d, owns (c : Thread nD τ) a fullShare d)

set_option maxHeartbeats 4000000 in
/-- The body at any point: it ends, the inputs' buffers are as they were, the result's and the scratch buffers hold
    something. -/
theorem body (c : Dev nD) (i : grid0.Coords)
    (a1 : Memref sig .tc .vmem S4096x128 .f32) (h1 : a1.IsWhole) (a2 : Memref sig .tc .vmem S1x4096 .f32) (h2 : a2.IsWhole)
    (a3 : Memref sig .tc .vmem S128x2048 .bf16) (h3 : a3.IsWhole) (a4 : Memref sig .tc .vmem S1x2048 .f32) (h4 : a4.IsWhole)
    (a5 : Memref sig .tc .vmem S1024x4 .bf16) (h5 : a5.IsWhole) (a6 : Memref sig .tc .vmem S1x4 .f32) (h6 : a6.IsWhole)
    (a7 : Memref sig .tc .vmem S4x256x124 .bf16) (h7 : a7.IsWhole) (a8 : Memref sig .tc .vmem S4x1x124 .f32) (h8 : a8.IsWhole)
    (a9 : Memref sig .tc .vmem S4x64x124 .f32) (h9 : a9.IsWhole) (a10 : Memref sig .tc .vmem S1x4 .f32) (h10 : a10.IsWhole)
    (a11 : Memref sig .tc .vmem S64x4 .f32) (h11 : a11.IsWhole) (a12 : Memref sig .tc .vmem S4x64x124 .f32) (h12 : a12.IsWhole)
    (x1 : Vec F S4096x128 .f32) (x2 : Vec F S1x4096 .f32) (x3 : Vec F S128x2048 .bf16) (x4 : Vec F S1x2048 .f32)
    (x5 : Vec F S1024x4 .bf16) (x6 : Vec F S1x4 .f32) (x7 : Vec F S4x256x124 .bf16) (x8 : Vec F S4x1x124 .f32)
    (E : Set ℕ) (K : PUnit → sProp 𝕄) :
    iprop(owns (c : Thread nD τ) a1 fullShare x1 ∗ owns (c : Thread nD τ) a2 fullShare x2
        ∗ owns (c : Thread nD τ) a3 fullShare x3 ∗ owns (c : Thread nD τ) a4 fullShare x4
        ∗ owns (c : Thread nD τ) a5 fullShare x5 ∗ owns (c : Thread nD τ) a6 fullShare x6
        ∗ owns (c : Thread nD τ) a7 fullShare x7 ∗ owns (c : Thread nD τ) a8 fullShare x8
        ∗ some_ c a9 ∗ some_ c a10 ∗ some_ c a11 ∗ some_ c a12
        ∗ (iprop(owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare x5 ∗ owns (c : Thread nD τ) a6 fullShare x6
            ∗ owns (c : Thread nD τ) a7 fullShare x7 ∗ owns (c : Thread nD τ) a8 fullShare x8
            ∗ some_ c a9 ∗ some_ c a10 ∗ some_ c a11 ∗ some_ c a12) -∗ K ⟨⟩))
      ⊢ wp frame (wpE (defs₀ (F := F)) Variants.none c none) E
          (cc0__fused_body i a1 h1 a2 h2 a3 h3 a4 h4 a5 h5 a6 h6 a7 h7 a8 h8 a9 h9 a10 h10 a11 h11 a12 h12) K := by
  simp only [cc0__fused_body_eq_skeleton]; unfold cc0__fused_body_skel
  simp only [k0_part2_eq_skeleton, k0_part3_eq_skeleton, k0_part4_eq_skeleton, k0_part1_eq_skeleton]
  unfold some_ owns
  iintro ⟨⟨%f1, %e1, H1⟩, ⟨%f2, %e2, H2⟩, ⟨%f3, %e3, H3⟩, ⟨%f4, %e4, H4⟩, ⟨%f5, %e5, H5⟩, ⟨%f6, %e6, H6⟩,
    ⟨%f7, %e7, H7⟩, ⟨%f8, %e8, H8⟩, ⟨%d9, %f9, -, H9⟩, ⟨%d10, %f10, -, H10⟩, ⟨%d11, %f11, -, H11⟩, ⟨%d12, %f12, -, H12⟩, Hk⟩
  obtain rfl := h1.eq_unread e1; obtain rfl := h2.eq_unread e2; obtain rfl := h3.eq_unread e3
  obtain rfl := h4.eq_unread e4; obtain rfl := h5.eq_unread e5; obtain rfl := h6.eq_unread e6
  obtain rfl := h7.eq_unread e7; obtain rfl := h8.eq_unread e8
  by_cases c0 : first i <;> by_cases c1 : last i
  all_goals
    sl_exec (disch := first | sl_exact c0 | sl_exact c1)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl

end Cert.KernelRun

end
-- ==== Proof.KernelFrame.lean ====
/-
  The frame of the compiled kernel: its host program and its pipeline end, the arguments are unchanged and every semaphore
  counter is back at zero.

  The two row windows (the features and the graph numbers) overhang their arrays at the last point: past the array's end
  the staged rows hold words nobody names. The proof data below therefore says of those two buffers only what the rows
  inside the array hold, says nothing of the result window, and keeps the scratch buffers at some contents.
-/
module

public import proofs.«01_k».proof.Proof.KernelBody

@[expose] public section

set_option maxRecDepth 16384

noncomputable section

namespace Cert.KernelRun

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result window: nothing is said of what it holds. -/
def unread : Fin 9 → Bool := fun w => w.val == 8

/-- The proof data of the pipeline on core `c`: the arrays as the region finds them; after the body each input's buffer at
    its block (for the two overhanging windows: at its block on the rows inside the array); the scratch buffers at some
    contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

/-- The features' buffer, just fetched: the block on the rows inside the array, anything past them. -/
theorem before_0 (c : Dev nD) (t : Fin cfg0.N) (d) :
    (dats m 0 c).before 0 t d = win0_0.fill (grid0.coords t) d (iblk m c 0 t) := by
  unfold Dat.before; rw [if_pos (fetch0_0 t)]; rfl

/-- The graph numbers' buffer likewise. -/
theorem before_1 (c : Dev nD) (t : Fin cfg0.N) (d) :
    (dats m 0 c).before 1 t d = win0_1.fill (grid0.coords t) d (iblk m c 1 t) := by
  unfold Dat.before; rw [if_pos (fetch0_1 t)]; rfl

theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d
theorem before_5 (c : Dev nD) (t : Fin cfg0.N) (d) : (dats m 0 c).before 5 t d = iblk m c 5 t :=
  before0_5_of m (dats m 0 c) (A_eq m c 5) (fun t => by dsimp only [dats]) t d
theorem before_6 (c : Dev nD) (t : Fin cfg0.N) (d) : (dats m 0 c).before 6 t d = iblk m c 6 t :=
  before0_6_of m (dats m 0 c) (A_eq m c 6) (fun t => by dsimp only [dats]) t d
theorem before_7 (c : Dev nD) (t : Fin cfg0.N) (d) : (dats m 0 c).before 7 t d = iblk m c 7 t :=
  before0_7_of m (dats m 0 c) (A_eq m c 7) (fun t => by dsimp only [dats]) t d

/-- The launch's scratch buffers, as memrefs at some contents, with the generator's register. -/
theorem scratch_eq (c : Dev nD) :
    (Pipeline.ΦA spec0 c : sProp 𝕄)
      = iprop(iprop(some_ c (Memref.whole cc0_scratch0) ∗ some_ c (Memref.whole cc0_scratch1) ∗ some_ c (Memref.whole cc0_scratch2))
          ∗ (∃ r, prngReg c r)) := by
  unfold Pipeline.ΦA; rw [scopedRest0_eq]; simp only [some_, owns_whole]; try rfl

/-- The body table's row at a point is the body on that point's buffers. -/
theorem row (t : Fin cfg0.N) : defs₀ (F := F) .tc cfg0.body (cfg0.bodyArgs t (cfg0.slots t)) = bodyAt0 t := by
  unfold defs₀; rw [Defs.onTc_tc]

/-- What the body is called with at point `t`, buffer by buffer. -/
def before (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ some_ c (st0_8 t))

/-- What it hands back: each overhanging window's buffer at its block on the rows inside the array. -/
def after (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ (∃ d, owns (c : Thread nD τ) (st0_1 t) fullShare
        (win0_1.fill (grid0.coords t) d (win0_1.cut (grid0.coords t) ((dats m 0 c).after 1 t))))
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ some_ c (st0_8 t))

set_option maxHeartbeats 4000000 in
/-- The body at point `t`. -/
theorem sound (c : Dev nD) (t : Fin cfg0.N) :
    before (F := F) m c t ⊢ wp frame (wpE (defs₀ (F := F)) Variants.none c none) Set.univ (bodyAt0 t) (fun _ => after m c t) := by
  unfold before after bodyAt0
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, scratch_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8⟩
  rw [before_0 m c t d0, before_1 m c t d1, before_2, before_3, before_4, before_5, before_6, before_7]
  iapply (body (F := F) c (grid0.coords t) _ _ _ _ _ _ _ _ _ _ _ _ _ _ _ _ _ _ _ _ _ _ _ _
    (win0_0.fill (grid0.coords t) d0 (iblk m c 0 t)) (win0_1.fill (grid0.coords t) d1 (iblk m c 1 t))
    (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  iintro ⟨H0, H1, H2, H3, H4, H5, H6, H7, H8, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  have e0 : win0_0.cut (grid0.coords t) ((dats m 0 c).after 0 t) = iblk m c 0 t := win0_0.cut_fill _ _ _
  have e1 : win0_1.cut (grid0.coords t) ((dats m 0 c).after 1 t) = iblk m c 1 t := win0_1.cut_fill _ _ _
  isplitl [H0]
  · iexists d0
    rw [e0]; iexact H0
  isplitl [H1]
  · iexists d1
    rw [e1]; iexact H1
  isplitl [H2]; · iexact H2
  isplitl [H3]; · iexact H3
  isplitl [H4]; · iexact H4
  isplitl [H5]; · iexact H5
  isplitl [H6]; · iexact H6
  isplitl [H7]; · iexact H7
  iexact H8

set_option maxHeartbeats 4000000 in
/-- The body meets the pipeline's obligation at every point. -/
theorem obligation (c : Dev nD) :
    BodyObligationLoose (dats (F := F) m 0 c) (defs₀ (F := F)) Variants.none () Set.univ unread := fun t => by
  rw [bigSep_W0, bigSep_W0, row]
  exact triple_restated (sound m c t) rfl .rfl fun _ => .rfl

/-- The buffers the host lines after the region write. -/
def tail : Finset (Ref sig .tc) := {main_v34, main_v35, main_v36}

theorem tail_writes : ∀ ops ∈ ([hostOps1] : List (List (HloOp τ sig (Elt F)))), ∀ op ∈ ops,
    ∀ b : Ref sig .tc, Proc.devRef .tc b ∈ op.writes → b ∈ tail := by
  intro ops hops op hop
  simp only [List.mem_cons, List.mem_nil_iff, or_false] at hops
  rcases hops with rfl
  simp only [hostOps1, List.mem_cons, List.mem_nil_iff, or_false] at hop
  rcases hop with rfl | rfl | rfl
  all_goals
    intro b hb
    simp only [StableHlo.unary_writes, StableHlo.reshape_writes, StableHlo.nary_writes, Finset.mem_singleton] at hb
    cases Proc.devRef_injective _ hb; decide

-- the launch theorem's implicit arguments are found by unifying its conclusion, which unfolds plain definitions
set_option backward.isDefEq.respectTransparency.types false in
set_option maxHeartbeats 800000 in
/-- The run: every execution ends, with the arrays that nothing writes as the region found them and the counters at zero. -/
theorem run : θ_run defs (onTc (τ := τ) (main (F := F))) (s₀ m ρ)
    (fun r => (Pipeline.RDat.FramePostR (cfgs 0) (fun c => (dats m 0 c).toRForget unread) tail (V m)) r ∧ r.2.sem = fun _ => 0) :=
  Pipeline.θ_run_frame_around_T_track_forget (Q' := _) cfgs (dats m) (0 : Fin 1) launch0 defs₀ Variants.none unread tail m ρ main
    (hbody := obligation m) (hshare := fun c => (dats m 0 c).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hin := fun _ => .rfl) (hout := fun _ => .rfl)

/-- A buffer no window stages and no later host line writes ends as the region found it. -/
theorem rest {r : PUnit × MemSt nD τ sig (Elt F)}
    (h : Pipeline.RDat.FramePostR (cfgs 0) (fun c => (dats m 0 c).toRForget unread) tail (V m) r) (c : Dev nD) (b : Ref sig .tc)
    (hs : b.isScoped = false) (hb : ∀ w, ((cfgs 0).spec w).arr.view.ref ≠ b) (ht : b ∉ tail) :
    r.2.mem ((c.tc : Thread nD τ).loc b) = V m c b :=
  (h c).2 b (Finset.mem_sdiff.mpr ⟨Pipeline.mem_restRefs_of b hs hb, ht⟩)

/-- The frame: every execution ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ h => ⟨fun c => ⟨(Pipeline.RDat.FramePostR.arr_in h.1 c 0 rfl).trans ((A_eq m c 0).trans (V_main_arg0 m c)),
      (rest m h.1 c main_arg1 (by decide) (by decide) (by decide)).trans (V_main_arg1 m c),
      (rest m h.1 c main_arg2 (by decide) (by decide) (by decide)).trans (V_main_arg2 m c),
      (rest m h.1 c main_arg3 (by decide) (by decide) (by decide)).trans (V_main_arg3 m c),
      (rest m h.1 c main_arg4 (by decide) (by decide) (by decide)).trans (V_main_arg4 m c),
      (rest m h.1 c main_arg5 (by decide) (by decide) (by decide)).trans (V_main_arg5 m c),
      (rest m h.1 c main_arg6 (by decide) (by decide) (by decide)).trans (V_main_arg6 m c),
      (rest m h.1 c main_arg7 (by decide) (by decide) (by decide)).trans (V_main_arg7 m c),
      (rest m h.1 c main_arg8 (by decide) (by decide) (by decide)).trans (V_main_arg8 m c),
      (rest m h.1 c main_arg9 (by decide) (by decide) (by decide)).trans (V_main_arg9 m c),
      (rest m h.1 c main_arg10 (by decide) (by decide) (by decide)).trans (V_main_arg10 m c),
      (rest m h.1 c main_arg11 (by decide) (by decide) (by decide)).trans (V_main_arg11 m c),
      (rest m h.1 c main_arg12 (by decide) (by decide) (by decide)).trans (V_main_arg12 m c),
      (rest m h.1 c main_arg13 (by decide) (by decide) (by decide)).trans (V_main_arg13 m c),
      (rest m h.1 c main_arg14 (by decide) (by decide) (by decide)).trans (V_main_arg14 m c),
      (rest m h.1 c main_arg15 (by decide) (by decide) (by decide)).trans (V_main_arg15 m c),
      (rest m h.1 c main_arg16 (by decide) (by decide) (by decide)).trans (V_main_arg16 m c),
      (rest m h.1 c main_arg17 (by decide) (by decide) (by decide)).trans (V_main_arg17 m c)⟩, h.2⟩) (run m ρ)

end Cert.KernelRun

end
-- ==== Proof.IdealState.lean ====
/-
  One call of the kernel's body with the contents named, over any float carrier.

  The body carries a state from point to point: the running maximum of each pool's gates (`St.m`), the running
  denominators of each graph (`St.s`) and the running numerators (`St.p`). `St.step` is what one call makes of the state
  from that point's blocks, `St.init` what the first point resets it to, `St.out` what the last point stores as the result.
-/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.IdealRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)

variable {F : FTy → Type} [FloatOps F] [Named F]

local notation "𝕄" => MT nD τ sig Unit (Elt F) ℕ (UR sig nD τ) ℕ

/-- The condition under which the body resets its scratch buffers, at grid coordinates `i`. -/
abbrev first (i : grid0.Coords) : Prop :=
  (Scalar.cmpi .ne (Scalar.extui (Scalar.cmpi .eq (BitVec.ofNat 32 (i 0).val) 0#32)) 0#32) = 1#1

/-- The condition under which the body stores its result, at grid coordinates `i`. -/
abbrev last (i : grid0.Coords) : Prop := k0_cond2 i = 1#1

/-- A whole buffer of the body at some contents. -/
abbrev some_ (c : Dev nD) {s : Shape} {e : EltTy} (a : Memref sig .tc .vmem s e) : sProp 𝕄 :=
  iprop(∃ d, owns (c : Thread nD τ) a fullShare d)

/-- The blocks one point of the grid reads: rows of the features, their graph numbers, and the weights. -/
structure In (F : FTy → Type) where
  x : Vec F S4096x128 .f32
  batch : Vec F S1x4096 .f32
  w1 : Vec F S128x2048 .bf16
  b1 : Vec F S1x2048 .f32
  w2 : Vec F S1024x4 .bf16
  b2 : Vec F S1x4 .f32
  wn : Vec F S4x256x124 .bf16
  bn : Vec F S4x1x124 .f32

/-- The state carried from point to point. -/
structure St (F : FTy → Type) where
  m : Vec F S1x4 .f32
  s : Vec F S64x4 .f32
  p : Vec F S4x64x124 .f32

namespace In

variable (i : grid0.Coords) (I : In F)

/-- The first layer of every pool's two networks, activated. -/
abbrev act : FVec F S4096x2048 .bf16 := k0_pay11 i I.x I.w1 I.b1
/-- The gates, and the gates with rows past the array's end masked. -/
abbrev gate : FVec F S4096x4 .f32 := k0_pay12 i I.x I.w1 I.b1 I.w2 I.b2
abbrev masked := k0_pay13 i I.x I.w1 I.b1 I.w2 I.b2

/-- Pool `k`'s second-layer weights and bias. -/
abbrev wn0 : Vec F S1x256x124 .bf16 := window I.wn ![0, 0, 0] ![1, 256, 124] inb_S4x256x124_S1x256x124_0_0_0
abbrev wn1 : Vec F S1x256x124 .bf16 := window I.wn ![1, 0, 0] ![1, 256, 124] inb_S4x256x124_S1x256x124_1_0_0
abbrev wn2 : Vec F S1x256x124 .bf16 := window I.wn ![2, 0, 0] ![1, 256, 124] inb_S4x256x124_S1x256x124_2_0_0
abbrev wn3 : Vec F S1x256x124 .bf16 := window I.wn ![3, 0, 0] ![1, 256, 124] inb_S4x256x124_S1x256x124_3_0_0
abbrev bn0 : Vec F S1x1x124 .f32 := window I.bn ![0, 0, 0] ![1, 1, 124] inb_S4x1x124_S1x1x124_0_0_0
abbrev bn1 : Vec F S1x1x124 .f32 := window I.bn ![1, 0, 0] ![1, 1, 124] inb_S4x1x124_S1x1x124_1_0_0
abbrev bn2 : Vec F S1x1x124 .f32 := window I.bn ![2, 0, 0] ![1, 1, 124] inb_S4x1x124_S1x1x124_2_0_0
abbrev bn3 : Vec F S1x1x124 .f32 := window I.bn ![3, 0, 0] ![1, 1, 124] inb_S4x1x124_S1x1x124_3_0_0

end In

/-- Slab `k` of a stack of four. -/
abbrev slab0 (P : Vec F S4x64x124 .f32) : Vec F S1x64x124 .f32 := window P ![0, 0, 0] ![1, 64, 124] inb_S4x64x124_S1x64x124_0_0_0
abbrev slab1 (P : Vec F S4x64x124 .f32) : Vec F S1x64x124 .f32 := window P ![1, 0, 0] ![1, 64, 124] inb_S4x64x124_S1x64x124_1_0_0
abbrev slab2 (P : Vec F S4x64x124 .f32) : Vec F S1x64x124 .f32 := window P ![2, 0, 0] ![1, 64, 124] inb_S4x64x124_S1x64x124_2_0_0
abbrev slab3 (P : Vec F S4x64x124 .f32) : Vec F S1x64x124 .f32 := window P ![3, 0, 0] ![1, 64, 124] inb_S4x64x124_S1x64x124_3_0_0

/-- A stack of four with every slab put anew. -/
abbrev stack (P : Vec F S4x64x124 .f32) (w0 w1 w2 w3 : Vec F S1x64x124 .f32) : Vec F S4x64x124 .f32 :=
  put (put (put (put P ![0, 0, 0] ![1, 64, 124] w0) ![1, 0, 0] ![1, 64, 124] w1) ![2, 0, 0] ![1, 64, 124] w2)
    ![3, 0, 0] ![1, 64, 124] w3

namespace St

/-- The state the first point starts from. -/
def init : St F := ⟨k0_pay7, k0_pay8, k0_pay9⟩

variable (i : grid0.Coords) (I : In F) (S : St F)

/-- The new running maximum. -/
def stepM : Vec F S1x4 .f32 := k0_pay16 (I.masked i) S.m

/-- The new running denominators. -/
def stepS : Vec F S64x4 .f32 := k0_pay19 (I.gate i) (I.masked i) S.m I.batch S.s

/-- The new running numerators, pool by pool. -/
def stepP0 : Vec F S1x64x124 .f32 :=
  k0_pay23 (k0_pay20 (I.act i) (I.gate i) (I.masked i) S.m I.batch I.wn0) (k0_pay21 (slab0 S.p)) (k0_pay22 (I.masked i) S.m)
def stepP1 : Vec F S1x64x124 .f32 :=
  k0_pay24 (I.act i) (k0_pay15 (I.masked i) S.m) (k0_pay17 (I.gate i) (I.masked i) S.m) (k0_pay18 I.batch) I.wn1 (slab1 S.p)
def stepP2 : Vec F S1x64x124 .f32 :=
  k0_pay1 (k0_pay25 (I.act i) (k0_pay17 (I.gate i) (I.masked i) S.m) (k0_pay18 I.batch) I.wn2) (k0_pay26 (slab2 S.p))
    (k0_pay27 (k0_pay15 (I.masked i) S.m))
def stepP3 : Vec F S1x64x124 .f32 :=
  k0_pay2 (I.act i) (k0_pay15 (I.masked i) S.m) (k0_pay17 (I.gate i) (I.masked i) S.m) (k0_pay18 I.batch) I.wn3 (slab3 S.p)

/-- The state after one point. -/
def step : St F :=
  ⟨stepM i I S, stepS i I S, stack S.p (stepP0 i I S) (stepP1 i I S) (stepP2 i I S) (stepP3 i I S)⟩

/-- The result block stored from the final state; `Z`, what the buffer held before, is overwritten everywhere. -/
def out (Z : Vec F S4x64x124 .f32) : Vec F S4x64x124 .f32 :=
  stack Z (k0_pay5 S.s (slab0 S.p) I.bn0) (k0_pay6 S.s (slab1 S.p) I.bn1) (k0_pay3 S.s (slab2 S.p) I.bn2)
    (k0_pay4 S.s (slab3 S.p) I.bn3)

end St

section Slabs

/-- Slab `k` of a stack is the slab put there. -/
theorem slab0_stack (P w0 w1 w2 w3) : slab0 (stack (F := F) P w0 w1 w2 w3) = w0 := by
  unfold slab0 stack
  rw [VecWindow.window_put_of_disjoint _ _ _ _ _ _ _ 0 (by decide), VecWindow.window_put_of_disjoint _ _ _ _ _ _ _ 0 (by decide),
    VecWindow.window_put_of_disjoint _ _ _ _ _ _ _ 0 (by decide), VecWindow.window_put_same]
theorem slab1_stack (P w0 w1 w2 w3) : slab1 (stack (F := F) P w0 w1 w2 w3) = w1 := by
  unfold slab1 stack
  rw [VecWindow.window_put_of_disjoint _ _ _ _ _ _ _ 0 (by decide), VecWindow.window_put_of_disjoint _ _ _ _ _ _ _ 0 (by decide),
    VecWindow.window_put_same]
theorem slab2_stack (P w0 w1 w2 w3) : slab2 (stack (F := F) P w0 w1 w2 w3) = w2 := by
  unfold slab2 stack
  rw [VecWindow.window_put_of_disjoint _ _ _ _ _ _ _ 0 (by decide), VecWindow.window_put_same]
theorem slab3_stack (P w0 w1 w2 w3) : slab3 (stack (F := F) P w0 w1 w2 w3) = w3 := by
  unfold slab3 stack
  rw [VecWindow.window_put_same]

variable {κ : Kind} {sp : Space} (v : View sig κ sp S4x64x124 .f32) (f : v.ty.Contents (Elt F))
  (L : List (View.Piece (Elt F) S4x64x124 .f32)) (w0 w1 w2 w3 : Vec F S1x64x124 .f32)

/-- The four slabs stored one after the other leave their stack. -/
theorem read_slabs :
    v.read (Elt F) (v.writes (Elt F) f
      (⟨Rect.unit ![3, 0, 0] ![1, 64, 124] inb_S4x64x124_S1x64x124_3_0_0, w3⟩
        :: ⟨Rect.unit ![2, 0, 0] ![1, 64, 124] inb_S4x64x124_S1x64x124_2_0_0, w2⟩
        :: ⟨Rect.unit ![1, 0, 0] S1x64x124.size inb_S4x64x124_S1x64x124_1_0_0, w1⟩
        :: ⟨Rect.unit ![0, 0, 0] S1x64x124.size inb_S4x64x124_S1x64x124_0_0_0, w0⟩ :: L))
      = stack (v.read (Elt F) (v.writes (Elt F) f L)) w0 w1 w2 w3 := by
  have e3 := fun L => View.read_writes_cons_put v f inb_S4x64x124_S1x64x124_3_0_0 w3 L rfl
  have e2 := fun L => View.read_writes_cons_put v f inb_S4x64x124_S1x64x124_2_0_0 w2 L rfl
  have e1 := fun L => View.read_writes_cons_put v f inb_S4x64x124_S1x64x124_1_0_0 w1 L rfl
  have e0 := fun L => View.read_writes_cons_put v f inb_S4x64x124_S1x64x124_0_0_0 w0 L rfl
  rw [e3, e2, e1, e0]

end Slabs

end Cert.IdealRun

end
-- ==== Proof.IdealFirst.lean ====
/-
  The body's run at the first point of the grid.
-/
module

public import proofs.«01_k».proof.Proof.Gen.KernelIdeal.Frame
public import proofs.«01_k».proof.Proof.Gen.KernelIdeal.Skeleton
public import proofs.«01_k».proof.Proof.IdealState

@[expose] public section

set_option maxRecDepth 16384

noncomputable section

namespace Cert.IdealRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)

variable {F : FTy → Type} [FloatOps F] [Named F]

local notation "𝕄" => MT nD τ sig Unit (Elt F) ℕ (UR sig nD τ) ℕ

set_option maxHeartbeats 4000000 in
/-- The body at the first point: the state is reset, then stepped. -/
theorem bodyFirst (c : Dev nD) (i : grid0.Coords)
    (a1 : Memref sig .tc .vmem S4096x128 .f32) (h1 : a1.IsWhole) (a2 : Memref sig .tc .vmem S1x4096 .f32) (h2 : a2.IsWhole)
    (a3 : Memref sig .tc .vmem S128x2048 .bf16) (h3 : a3.IsWhole) (a4 : Memref sig .tc .vmem S1x2048 .f32) (h4 : a4.IsWhole)
    (a5 : Memref sig .tc .vmem S1024x4 .bf16) (h5 : a5.IsWhole) (a6 : Memref sig .tc .vmem S1x4 .f32) (h6 : a6.IsWhole)
    (a7 : Memref sig .tc .vmem S4x256x124 .bf16) (h7 : a7.IsWhole) (a8 : Memref sig .tc .vmem S4x1x124 .f32) (h8 : a8.IsWhole)
    (a9 : Memref sig .tc .vmem S4x64x124 .f32) (h9 : a9.IsWhole) (a10 : Memref sig .tc .vmem S1x4 .f32) (h10 : a10.IsWhole)
    (a11 : Memref sig .tc .vmem S64x4 .f32) (h11 : a11.IsWhole) (a12 : Memref sig .tc .vmem S4x64x124 .f32) (h12 : a12.IsWhole)
    (x1 : Vec F S4096x128 .f32) (x2 : Vec F S1x4096 .f32) (x3 : Vec F S128x2048 .bf16) (x4 : Vec F S1x2048 .f32)
    (x5 : Vec F S1024x4 .bf16) (x6 : Vec F S1x4 .f32) (x7 : Vec F S4x256x124 .bf16) (x8 : Vec F S4x1x124 .f32)
    (y9 : Vec F S4x64x124 .f32) (y10 : Vec F S1x4 .f32) (y11 : Vec F S64x4 .f32) (y12 : Vec F S4x64x124 .f32)
    (c0 : first i) (c1 : ¬last i) (E : Set ℕ) (K : PUnit → sProp 𝕄) :
    iprop(owns (c : Thread nD τ) a1 fullShare x1 ∗ owns (c : Thread nD τ) a2 fullShare x2
        ∗ owns (c : Thread nD τ) a3 fullShare x3 ∗ owns (c : Thread nD τ) a4 fullShare x4
        ∗ owns (c : Thread nD τ) a5 fullShare x5 ∗ owns (c : Thread nD τ) a6 fullShare x6
        ∗ owns (c : Thread nD τ) a7 fullShare x7 ∗ owns (c : Thread nD τ) a8 fullShare x8
        ∗ owns (c : Thread nD τ) a9 fullShare y9 ∗ owns (c : Thread nD τ) a10 fullShare y10
        ∗ owns (c : Thread nD τ) a11 fullShare y11 ∗ owns (c : Thread nD τ) a12 fullShare y12
        ∗ (iprop(owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare x5 ∗ owns (c : Thread nD τ) a6 fullShare x6
            ∗ owns (c : Thread nD τ) a7 fullShare x7 ∗ owns (c : Thread nD τ) a8 fullShare x8
            ∗ owns (c : Thread nD τ) a9 fullShare y9
            ∗ owns (c : Thread nD τ) a10 fullShare (St.step i ⟨x1, x2, x3, x4, x5, x6, x7, x8⟩ St.init).m
            ∗ owns (c : Thread nD τ) a11 fullShare (St.step i ⟨x1, x2, x3, x4, x5, x6, x7, x8⟩ St.init).s
            ∗ owns (c : Thread nD τ) a12 fullShare (St.step i ⟨x1, x2, x3, x4, x5, x6, x7, x8⟩ St.init).p) -∗ K ⟨⟩))
      ⊢ wp frame (wpE (defs₀ (F := F)) Variants.none c none) E
          (cc0__fused_body i a1 h1 a2 h2 a3 h3 a4 h4 a5 h5 a6 h6 a7 h7 a8 h8 a9 h9 a10 h10 a11 h11 a12 h12) K := by
  simp only [cc0__fused_body_eq_skeleton]; unfold cc0__fused_body_skel
  simp only [k0_part2_eq_skeleton, k0_part3_eq_skeleton, k0_part4_eq_skeleton, k0_part1_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩,
    ⟨%f7, %e7, H7⟩, ⟨%f8, %e8, H8⟩, ⟨%f9, %e9, H9⟩, ⟨%f10, %e10, H10⟩, ⟨%f11, %e11, H11⟩, ⟨%f12, %e12, H12⟩, Hk⟩
  obtain rfl := h1.eq_unread e1; obtain rfl := h2.eq_unread e2; obtain rfl := h3.eq_unread e3
  obtain rfl := h4.eq_unread e4; obtain rfl := h5.eq_unread e5; obtain rfl := h6.eq_unread e6
  obtain rfl := h7.eq_unread e7; obtain rfl := h8.eq_unread e8; obtain rfl := h9.eq_unread e9
  obtain rfl := h10.eq_unread e10; obtain rfl := h11.eq_unread e11; obtain rfl := h12.eq_unread e12
  sl_exec (disch := first | sl_exact c0 | sl_exact c1)
  sl_step
  iapply Hk
  isplitl [H1]; · iexists _; isplitr; · ipureintro; exact h1.read_unread _
                  iexact H1
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]; · iexists _; isplitr; · ipureintro; exact h7.read_unread _
                  iexact H7
  isplitl [H8]; · iexists _; isplitr; · ipureintro; exact h8.read_unread _
                  iexact H8
  have q1 := (View.readAt_full a1.view (h1.unread x1) inb_S4096x128_S4096x128_0_0).trans e1
  have q2 := (View.readAt_full a2.view (h2.unread x2) inb_S1x4096_S1x4096_0_0).trans e2
  have q3 := (View.readAt_full a3.view (h3.unread x3) inb_S128x2048_S128x2048_0_0).trans e3
  have q4 := (View.readAt_full a4.view (h4.unread x4) inb_S1x2048_S1x2048_0_0).trans e4
  have q5 := (View.readAt_full a5.view (h5.unread x5) inb_S1024x4_S1024x4_0_0).trans e5
  have q6 := (View.readAt_full a6.view (h6.unread x6) inb_S1x4_S1x4_0_0).trans e6
  have q70 : a7.view.readAt (Elt F) (Rect.unit (s := S4x256x124) ![0, 0, 0] S1x256x124.size inb_S4x256x124_S1x256x124_0_0_0).toLoadRect (h7.unread x7)
      = window x7 ![0, 0, 0] ![1, 256, 124] inb_S4x256x124_S1x256x124_0_0_0 :=
    (View.readAt_unit a7.view _ _ rfl inb_S4x256x124_S1x256x124_0_0_0).trans (congrArg (fun X => window X _ _ _) e7)
  have q71 : a7.view.readAt (Elt F) (Rect.unit (s := S4x256x124) ![1, 0, 0] S1x256x124.size inb_S4x256x124_S1x256x124_1_0_0).toLoadRect (h7.unread x7)
      = window x7 ![1, 0, 0] ![1, 256, 124] inb_S4x256x124_S1x256x124_1_0_0 :=
    (View.readAt_unit a7.view _ _ rfl inb_S4x256x124_S1x256x124_1_0_0).trans (congrArg (fun X => window X _ _ _) e7)
  have q72 : a7.view.readAt (Elt F) (Rect.unit (s := S4x256x124) ![2, 0, 0] S1x256x124.size inb_S4x256x124_S1x256x124_2_0_0).toLoadRect (h7.unread x7)
      = window x7 ![2, 0, 0] ![1, 256, 124] inb_S4x256x124_S1x256x124_2_0_0 :=
    (View.readAt_unit a7.view _ _ rfl inb_S4x256x124_S1x256x124_2_0_0).trans (congrArg (fun X => window X _ _ _) e7)
  have q73 : a7.view.readAt (Elt F) (Rect.unit (s := S4x256x124) ![3, 0, 0] ![1, 256, 124] inb_S4x256x124_S1x256x124_3_0_0).toLoadRect (h7.unread x7)
      = window x7 ![3, 0, 0] ![1, 256, 124] inb_S4x256x124_S1x256x124_3_0_0 :=
    (View.readAt_unit a7.view _ _ rfl inb_S4x256x124_S1x256x124_3_0_0).trans (congrArg (fun X => window X _ _ _) e7)
  have q39 : bodyFirst.sl.v39 (F := F) c a10 = k0_pay7 := View.readCov_full a10.view _ _ _ _
  have q59 : bodyFirst.sl.v59 (F := F) c a11 = k0_pay8 := View.readCov_full a11.view _ _ _ _
  have hfill : ∀ f, a12.view.read (Elt F) (a12.view.writes (Elt F) f (bodyFirst.sl.H12_1 (F := F))) = k0_pay9 :=
    fun f => View.read_writes_full a12.view f _ _ _
  have q74 : bodyFirst.sl.v74 (F := F) c a12 = slab0 k0_pay9 :=
    (View.readAt_unit a12.view _ _ rfl inb_S4x64x124_S1x64x124_0_0_0).trans (congrArg (fun X => window X _ _ _) (hfill _))
  have q92 : bodyFirst.sl.v92 (F := F) c i a1 h1 a2 h2 a3 h3 a4 h4 a5 h5 a6 h6 a7 h7 a10 a12 x1 x2 x3 x4 x5 x6 x7 = slab1 k0_pay9 := by
    refine (View.readAt_unit a12.view _ _ rfl inb_S4x64x124_S1x64x124_1_0_0).trans ?_
    refine (congrArg (fun X => window X _ _ _) (View.read_writes_cons_put a12.view _ inb_S4x64x124_S1x64x124_0_0_0 _ _ rfl)).trans ?_
    refine (VecWindow.window_put_of_disjoint _ _ _ _ _ _ _ 0 (by decide)).trans ?_
    exact congrArg (fun X => window X _ _ _) (hfill _)
  have q110 : bodyFirst.sl.v110 (F := F) c i a1 h1 a2 h2 a3 h3 a4 h4 a5 h5 a6 h6 a7 h7 a10 a12 x1 x2 x3 x4 x5 x6 x7 = slab2 k0_pay9 := by
    refine (View.readAt_unit a12.view _ _ rfl inb_S4x64x124_S1x64x124_2_0_0).trans ?_
    delta bodyFirst.sl.H12_3 bodyFirst.sl.H12_2
    rw [View.read_writes_cons_put a12.view _ inb_S4x64x124_S1x64x124_1_0_0 _ _ rfl,
      View.read_writes_cons_put a12.view _ inb_S4x64x124_S1x64x124_0_0_0 _ _ rfl,
      VecWindow.window_put_of_disjoint _ _ _ _ _ _ _ 0 (by decide), VecWindow.window_put_of_disjoint _ _ _ _ _ _ _ 0 (by decide), hfill]
  have q128 : bodyFirst.sl.v128 (F := F) c i a1 h1 a2 h2 a3 h3 a4 h4 a5 h5 a6 h6 a7 h7 a10 a12 x1 x2 x3 x4 x5 x6 x7 = slab3 k0_pay9 := by
    refine (View.readAt_unit a12.view _ _ rfl inb_S4x64x124_S1x64x124_3_0_0).trans ?_
    delta bodyFirst.sl.H12_4 bodyFirst.sl.H12_3 bodyFirst.sl.H12_2
    rw [View.read_writes_cons_put a12.view _ inb_S4x64x124_S1x64x124_2_0_0 _ _ rfl,
      View.read_writes_cons_put a12.view _ inb_S4x64x124_S1x64x124_1_0_0 _ _ rfl,
      View.read_writes_cons_put a12.view _ inb_S4x64x124_S1x64x124_0_0_0 _ _ rfl,
      VecWindow.window_put_of_disjoint _ _ _ _ _ _ _ 0 (by decide), VecWindow.window_put_of_disjoint _ _ _ _ _ _ _ 0 (by decide),
      VecWindow.window_put_of_disjoint _ _ _ _ _ _ _ 0 (by decide), hfill]
  isplitl [H9]
  · iexists _; isplitr; swap; · iexact H9
    ipureintro
    exact e9
  isplitl [H10]
  · iexists _; isplitr; swap; · iexact H10
    ipureintro
    refine (View.read_writes_full a10.view _ _ _ _).trans ?_
    unfold St.step St.init St.stepM
    delta bodyFirst.sl.H12_4 bodyFirst.sl.H12_3 bodyFirst.sl.H12_2 bodyFirst.sl.r_11 bodyFirst.sl.r_10 bodyFirst.sl.r_9 bodyFirst.sl.r_8 bodyFirst.sl.r_7 bodyFirst.sl.r_6 bodyFirst.sl.r_5 bodyFirst.sl.r_4 bodyFirst.sl.r_3 bodyFirst.sl.r_2 bodyFirst.sl.r_1 bodyFirst.sl.r
    simp only [In.act, In.gate, In.masked, In.wn0, In.wn1, In.wn2, In.wn3, q1, q2, q3, q4, q5, q6, q70, q71, q72, q73, q39, q59, q74, q92, q110, q128]
  isplitl [H11]
  · iexists _; isplitr; swap; · iexact H11
    ipureintro
    refine (View.read_writes_full a11.view _ _ _ _).trans ?_
    unfold St.step St.init St.stepS
    delta bodyFirst.sl.H12_4 bodyFirst.sl.H12_3 bodyFirst.sl.H12_2 bodyFirst.sl.r_11 bodyFirst.sl.r_10 bodyFirst.sl.r_9 bodyFirst.sl.r_8 bodyFirst.sl.r_7 bodyFirst.sl.r_6 bodyFirst.sl.r_5 bodyFirst.sl.r_4 bodyFirst.sl.r_3 bodyFirst.sl.r_2 bodyFirst.sl.r_1 bodyFirst.sl.r
    simp only [In.act, In.gate, In.masked, In.wn0, In.wn1, In.wn2, In.wn3, q1, q2, q3, q4, q5, q6, q70, q71, q72, q73, q39, q59, q74, q92, q110, q128]
  iexists _; isplitr; swap; · iexact H12
  ipureintro
  refine (read_slabs a12.view _ (bodyFirst.sl.H12_1 (F := F)) _ _ _ _).trans ?_
  rw [hfill]
  unfold St.step St.init St.stepP0 St.stepP1 St.stepP2 St.stepP3
  delta bodyFirst.sl.H12_4 bodyFirst.sl.H12_3 bodyFirst.sl.H12_2 bodyFirst.sl.r_11 bodyFirst.sl.r_10 bodyFirst.sl.r_9 bodyFirst.sl.r_8 bodyFirst.sl.r_7 bodyFirst.sl.r_6 bodyFirst.sl.r_5 bodyFirst.sl.r_4 bodyFirst.sl.r_3 bodyFirst.sl.r_2 bodyFirst.sl.r_1 bodyFirst.sl.r
  simp only [In.act, In.gate, In.masked, In.wn0, In.wn1, In.wn2, In.wn3, q1, q2, q3, q4, q5, q6, q70, q71, q72, q73, q39, q59, q74, q92, q110, q128]

end Cert.IdealRun

end
-- ==== Proof.IdealMid.lean ====
/-
  The body's run at a point between the first and the last.
-/
module

public import proofs.«01_k».proof.Proof.Gen.KernelIdeal.Frame
public import proofs.«01_k».proof.Proof.Gen.KernelIdeal.Skeleton
public import proofs.«01_k».proof.Proof.IdealState

@[expose] public section

set_option maxRecDepth 16384

noncomputable section

namespace Cert.IdealRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)

variable {F : FTy → Type} [FloatOps F] [Named F]

local notation "𝕄" => MT nD τ sig Unit (Elt F) ℕ (UR sig nD τ) ℕ

set_option maxHeartbeats 4000000 in
/-- The body at a point neither first nor last: the state is stepped. -/
theorem bodyMid (c : Dev nD) (i : grid0.Coords)
    (a1 : Memref sig .tc .vmem S4096x128 .f32) (h1 : a1.IsWhole) (a2 : Memref sig .tc .vmem S1x4096 .f32) (h2 : a2.IsWhole)
    (a3 : Memref sig .tc .vmem S128x2048 .bf16) (h3 : a3.IsWhole) (a4 : Memref sig .tc .vmem S1x2048 .f32) (h4 : a4.IsWhole)
    (a5 : Memref sig .tc .vmem S1024x4 .bf16) (h5 : a5.IsWhole) (a6 : Memref sig .tc .vmem S1x4 .f32) (h6 : a6.IsWhole)
    (a7 : Memref sig .tc .vmem S4x256x124 .bf16) (h7 : a7.IsWhole) (a8 : Memref sig .tc .vmem S4x1x124 .f32) (h8 : a8.IsWhole)
    (a9 : Memref sig .tc .vmem S4x64x124 .f32) (h9 : a9.IsWhole) (a10 : Memref sig .tc .vmem S1x4 .f32) (h10 : a10.IsWhole)
    (a11 : Memref sig .tc .vmem S64x4 .f32) (h11 : a11.IsWhole) (a12 : Memref sig .tc .vmem S4x64x124 .f32) (h12 : a12.IsWhole)
    (x1 : Vec F S4096x128 .f32) (x2 : Vec F S1x4096 .f32) (x3 : Vec F S128x2048 .bf16) (x4 : Vec F S1x2048 .f32)
    (x5 : Vec F S1024x4 .bf16) (x6 : Vec F S1x4 .f32) (x7 : Vec F S4x256x124 .bf16) (x8 : Vec F S4x1x124 .f32)
    (y9 : Vec F S4x64x124 .f32) (y10 : Vec F S1x4 .f32) (y11 : Vec F S64x4 .f32) (y12 : Vec F S4x64x124 .f32)
    (c0 : ¬first i) (c1 : ¬last i) (E : Set ℕ) (K : PUnit → sProp 𝕄) :
    iprop(owns (c : Thread nD τ) a1 fullShare x1 ∗ owns (c : Thread nD τ) a2 fullShare x2
        ∗ owns (c : Thread nD τ) a3 fullShare x3 ∗ owns (c : Thread nD τ) a4 fullShare x4
        ∗ owns (c : Thread nD τ) a5 fullShare x5 ∗ owns (c : Thread nD τ) a6 fullShare x6
        ∗ owns (c : Thread nD τ) a7 fullShare x7 ∗ owns (c : Thread nD τ) a8 fullShare x8
        ∗ owns (c : Thread nD τ) a9 fullShare y9 ∗ owns (c : Thread nD τ) a10 fullShare y10
        ∗ owns (c : Thread nD τ) a11 fullShare y11 ∗ owns (c : Thread nD τ) a12 fullShare y12
        ∗ (iprop(owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare x5 ∗ owns (c : Thread nD τ) a6 fullShare x6
            ∗ owns (c : Thread nD τ) a7 fullShare x7 ∗ owns (c : Thread nD τ) a8 fullShare x8
            ∗ owns (c : Thread nD τ) a9 fullShare y9
            ∗ owns (c : Thread nD τ) a10 fullShare (St.step i ⟨x1, x2, x3, x4, x5, x6, x7, x8⟩ ⟨y10, y11, y12⟩).m
            ∗ owns (c : Thread nD τ) a11 fullShare (St.step i ⟨x1, x2, x3, x4, x5, x6, x7, x8⟩ ⟨y10, y11, y12⟩).s
            ∗ owns (c : Thread nD τ) a12 fullShare (St.step i ⟨x1, x2, x3, x4, x5, x6, x7, x8⟩ ⟨y10, y11, y12⟩).p) -∗ K ⟨⟩))
      ⊢ wp frame (wpE (defs₀ (F := F)) Variants.none c none) E
          (cc0__fused_body i a1 h1 a2 h2 a3 h3 a4 h4 a5 h5 a6 h6 a7 h7 a8 h8 a9 h9 a10 h10 a11 h11 a12 h12) K := by
  simp only [cc0__fused_body_eq_skeleton]; unfold cc0__fused_body_skel
  simp only [k0_part2_eq_skeleton, k0_part3_eq_skeleton, k0_part4_eq_skeleton, k0_part1_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩,
    ⟨%f7, %e7, H7⟩, ⟨%f8, %e8, H8⟩, ⟨%f9, %e9, H9⟩, ⟨%f10, %e10, H10⟩, ⟨%f11, %e11, H11⟩, ⟨%f12, %e12, H12⟩, Hk⟩
  obtain rfl := h1.eq_unread e1; obtain rfl := h2.eq_unread e2; obtain rfl := h3.eq_unread e3
  obtain rfl := h4.eq_unread e4; obtain rfl := h5.eq_unread e5; obtain rfl := h6.eq_unread e6
  obtain rfl := h7.eq_unread e7; obtain rfl := h8.eq_unread e8; obtain rfl := h9.eq_unread e9
  obtain rfl := h10.eq_unread e10; obtain rfl := h11.eq_unread e11; obtain rfl := h12.eq_unread e12
  sl_exec (disch := first | sl_exact c0 | sl_exact c1)
  sl_step
  iapply Hk
  isplitl [H1]; · iexists _; isplitr; · ipureintro; exact h1.read_unread _
                  iexact H1
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]; · iexists _; isplitr; · ipureintro; exact h7.read_unread _
                  iexact H7
  isplitl [H8]; · iexists _; isplitr; · ipureintro; exact h8.read_unread _
                  iexact H8
  have q1 := (View.readAt_full a1.view (h1.unread x1) inb_S4096x128_S4096x128_0_0).trans e1
  have q2 := (View.readAt_full a2.view (h2.unread x2) inb_S1x4096_S1x4096_0_0).trans e2
  have q3 := (View.readAt_full a3.view (h3.unread x3) inb_S128x2048_S128x2048_0_0).trans e3
  have q4 := (View.readAt_full a4.view (h4.unread x4) inb_S1x2048_S1x2048_0_0).trans e4
  have q5 := (View.readAt_full a5.view (h5.unread x5) inb_S1024x4_S1024x4_0_0).trans e5
  have q6 := (View.readAt_full a6.view (h6.unread x6) inb_S1x4_S1x4_0_0).trans e6
  have q70 : a7.view.readAt (Elt F) (Rect.unit (s := S4x256x124) ![0, 0, 0] S1x256x124.size inb_S4x256x124_S1x256x124_0_0_0).toLoadRect (h7.unread x7)
      = window x7 ![0, 0, 0] ![1, 256, 124] inb_S4x256x124_S1x256x124_0_0_0 :=
    (View.readAt_unit a7.view _ _ rfl inb_S4x256x124_S1x256x124_0_0_0).trans (congrArg (fun X => window X _ _ _) e7)
  have q71 : a7.view.readAt (Elt F) (Rect.unit (s := S4x256x124) ![1, 0, 0] S1x256x124.size inb_S4x256x124_S1x256x124_1_0_0).toLoadRect (h7.unread x7)
      = window x7 ![1, 0, 0] ![1, 256, 124] inb_S4x256x124_S1x256x124_1_0_0 :=
    (View.readAt_unit a7.view _ _ rfl inb_S4x256x124_S1x256x124_1_0_0).trans (congrArg (fun X => window X _ _ _) e7)
  have q72 : a7.view.readAt (Elt F) (Rect.unit (s := S4x256x124) ![2, 0, 0] S1x256x124.size inb_S4x256x124_S1x256x124_2_0_0).toLoadRect (h7.unread x7)
      = window x7 ![2, 0, 0] ![1, 256, 124] inb_S4x256x124_S1x256x124_2_0_0 :=
    (View.readAt_unit a7.view _ _ rfl inb_S4x256x124_S1x256x124_2_0_0).trans (congrArg (fun X => window X _ _ _) e7)
  have q73 : a7.view.readAt (Elt F) (Rect.unit (s := S4x256x124) ![3, 0, 0] ![1, 256, 124] inb_S4x256x124_S1x256x124_3_0_0).toLoadRect (h7.unread x7)
      = window x7 ![3, 0, 0] ![1, 256, 124] inb_S4x256x124_S1x256x124_3_0_0 :=
    (View.readAt_unit a7.view _ _ rfl inb_S4x256x124_S1x256x124_3_0_0).trans (congrArg (fun X => window X _ _ _) e7)
  have q10 := (View.readAt_full a10.view (h10.unread y10) inb_S1x4_S1x4_0_0).trans e10
  have q11 := (View.readAt_full a11.view (h11.unread y11) inb_S64x4_S64x4_0_0).trans e11
  have q120 : a12.view.readAt (Elt F) (Rect.unit (s := S4x64x124) ![0, 0, 0] S1x64x124.size inb_S4x64x124_S1x64x124_0_0_0).toLoadRect (h12.unread y12)
      = slab0 y12 :=
    (View.readAt_unit a12.view _ _ rfl inb_S4x64x124_S1x64x124_0_0_0).trans (congrArg (fun X => window X _ _ _) e12)
  have q121 : a12.view.readAt (Elt F) (Rect.unit (s := S4x64x124) ![1, 0, 0] S1x64x124.size inb_S4x64x124_S1x64x124_1_0_0).toLoadRect (h12.unread y12)
      = slab1 y12 :=
    (View.readAt_unit a12.view _ _ rfl inb_S4x64x124_S1x64x124_1_0_0).trans (congrArg (fun X => window X _ _ _) e12)
  have q122 : a12.view.readAt (Elt F) (Rect.unit (s := S4x64x124) ![2, 0, 0] S1x64x124.size inb_S4x64x124_S1x64x124_2_0_0).toLoadRect (h12.unread y12)
      = slab2 y12 :=
    (View.readAt_unit a12.view _ _ rfl inb_S4x64x124_S1x64x124_2_0_0).trans (congrArg (fun X => window X _ _ _) e12)
  have q123 : a12.view.readAt (Elt F) (Rect.unit (s := S4x64x124) ![3, 0, 0] ![1, 64, 124] inb_S4x64x124_S1x64x124_3_0_0).toLoadRect (h12.unread y12)
      = slab3 y12 :=
    (View.readAt_unit a12.view _ _ rfl inb_S4x64x124_S1x64x124_3_0_0).trans (congrArg (fun X => window X _ _ _) e12)
  isplitl [H9]
  · iexists _; isplitr; swap; · iexact H9
    ipureintro
    exact e9
  isplitl [H10]
  · iexists _; isplitr; swap; · iexact H10
    ipureintro
    refine (View.read_writes_full a10.view _ _ _ _).trans ?_
    unfold St.step St.stepM
    delta bodyMid.sl.r_11 bodyMid.sl.r_10 bodyMid.sl.r_9 bodyMid.sl.r_8 bodyMid.sl.r_7 bodyMid.sl.r_6 bodyMid.sl.r_5 bodyMid.sl.r_4 bodyMid.sl.r_3 bodyMid.sl.r_2 bodyMid.sl.r_1 bodyMid.sl.r bodyMid.sl.v128 bodyMid.sl.v110 bodyMid.sl.v92
    simp only [In.act, In.gate, In.masked, In.wn0, In.wn1, In.wn2, In.wn3, q1, q2, q3, q4, q5, q6, q70, q71, q72, q73, q10, q11, q120, q121, q122, q123]
  isplitl [H11]
  · iexists _; isplitr; swap; · iexact H11
    ipureintro
    refine (View.read_writes_full a11.view _ _ _ _).trans ?_
    unfold St.step St.stepS
    delta bodyMid.sl.r_11 bodyMid.sl.r_10 bodyMid.sl.r_9 bodyMid.sl.r_8 bodyMid.sl.r_7 bodyMid.sl.r_6 bodyMid.sl.r_5 bodyMid.sl.r_4 bodyMid.sl.r_3 bodyMid.sl.r_2 bodyMid.sl.r_1 bodyMid.sl.r bodyMid.sl.v128 bodyMid.sl.v110 bodyMid.sl.v92
    simp only [In.act, In.gate, In.masked, In.wn0, In.wn1, In.wn2, In.wn3, q1, q2, q3, q4, q5, q6, q70, q71, q72, q73, q10, q11, q120, q121, q122, q123]
  iexists _; isplitr; swap; · iexact H12
  ipureintro
  refine (read_slabs a12.view _ [] _ _ _ _).trans ?_
  rw [View.writes_nil, e12]
  unfold St.step St.stepP0 St.stepP1 St.stepP2 St.stepP3
  delta bodyMid.sl.r_11 bodyMid.sl.r_10 bodyMid.sl.r_9 bodyMid.sl.r_8 bodyMid.sl.r_7 bodyMid.sl.r_6 bodyMid.sl.r_5 bodyMid.sl.r_4 bodyMid.sl.r_3 bodyMid.sl.r_2 bodyMid.sl.r_1 bodyMid.sl.r bodyMid.sl.v128 bodyMid.sl.v110 bodyMid.sl.v92
  simp only [In.act, In.gate, In.masked, In.wn0, In.wn1, In.wn2, In.wn3, q1, q2, q3, q4, q5, q6, q70, q71, q72, q73, q10, q11, q120, q121, q122, q123]

end Cert.IdealRun

end
-- ==== Proof.IdealLast.lean ====
/-
  The body's run at the last point of the grid.
-/
module

public import proofs.«01_k».proof.Proof.Gen.KernelIdeal.Frame
public import proofs.«01_k».proof.Proof.Gen.KernelIdeal.Skeleton
public import proofs.«01_k».proof.Proof.IdealState

@[expose] public section

set_option maxRecDepth 16384

noncomputable section

namespace Cert.IdealRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open VecWindow (window put)

variable {F : FTy → Type} [FloatOps F] [Named F]

local notation "𝕄" => MT nD τ sig Unit (Elt F) ℕ (UR sig nD τ) ℕ

set_option maxHeartbeats 4000000 in
/-- The body at the last point: the state is stepped and the result stored. -/
theorem bodyLast (c : Dev nD) (i : grid0.Coords)
    (a1 : Memref sig .tc .vmem S4096x128 .f32) (h1 : a1.IsWhole) (a2 : Memref sig .tc .vmem S1x4096 .f32) (h2 : a2.IsWhole)
    (a3 : Memref sig .tc .vmem S128x2048 .bf16) (h3 : a3.IsWhole) (a4 : Memref sig .tc .vmem S1x2048 .f32) (h4 : a4.IsWhole)
    (a5 : Memref sig .tc .vmem S1024x4 .bf16) (h5 : a5.IsWhole) (a6 : Memref sig .tc .vmem S1x4 .f32) (h6 : a6.IsWhole)
    (a7 : Memref sig .tc .vmem S4x256x124 .bf16) (h7 : a7.IsWhole) (a8 : Memref sig .tc .vmem S4x1x124 .f32) (h8 : a8.IsWhole)
    (a9 : Memref sig .tc .vmem S4x64x124 .f32) (h9 : a9.IsWhole) (a10 : Memref sig .tc .vmem S1x4 .f32) (h10 : a10.IsWhole)
    (a11 : Memref sig .tc .vmem S64x4 .f32) (h11 : a11.IsWhole) (a12 : Memref sig .tc .vmem S4x64x124 .f32) (h12 : a12.IsWhole)
    (x1 : Vec F S4096x128 .f32) (x2 : Vec F S1x4096 .f32) (x3 : Vec F S128x2048 .bf16) (x4 : Vec F S1x2048 .f32)
    (x5 : Vec F S1024x4 .bf16) (x6 : Vec F S1x4 .f32) (x7 : Vec F S4x256x124 .bf16) (x8 : Vec F S4x1x124 .f32)
    (y9 : Vec F S4x64x124 .f32) (y10 : Vec F S1x4 .f32) (y11 : Vec F S64x4 .f32) (y12 : Vec F S4x64x124 .f32)
    (c0 : ¬first i) (c1 : last i) (E : Set ℕ) (K : PUnit → sProp 𝕄) :
    iprop(owns (c : Thread nD τ) a1 fullShare x1 ∗ owns (c : Thread nD τ) a2 fullShare x2
        ∗ owns (c : Thread nD τ) a3 fullShare x3 ∗ owns (c : Thread nD τ) a4 fullShare x4
        ∗ owns (c : Thread nD τ) a5 fullShare x5 ∗ owns (c : Thread nD τ) a6 fullShare x6
        ∗ owns (c : Thread nD τ) a7 fullShare x7 ∗ owns (c : Thread nD τ) a8 fullShare x8
        ∗ owns (c : Thread nD τ) a9 fullShare y9 ∗ owns (c : Thread nD τ) a10 fullShare y10
        ∗ owns (c : Thread nD τ) a11 fullShare y11 ∗ owns (c : Thread nD τ) a12 fullShare y12
        ∗ (iprop(owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare x5 ∗ owns (c : Thread nD τ) a6 fullShare x6
            ∗ owns (c : Thread nD τ) a7 fullShare x7 ∗ owns (c : Thread nD τ) a8 fullShare x8
            ∗ owns (c : Thread nD τ) a9 fullShare (St.out ⟨x1, x2, x3, x4, x5, x6, x7, x8⟩ (St.step i ⟨x1, x2, x3, x4, x5, x6, x7, x8⟩ ⟨y10, y11, y12⟩) y9)
            ∗ owns (c : Thread nD τ) a10 fullShare (St.step i ⟨x1, x2, x3, x4, x5, x6, x7, x8⟩ ⟨y10, y11, y12⟩).m
            ∗ owns (c : Thread nD τ) a11 fullShare (St.step i ⟨x1, x2, x3, x4, x5, x6, x7, x8⟩ ⟨y10, y11, y12⟩).s
            ∗ owns (c : Thread nD τ) a12 fullShare (St.step i ⟨x1, x2, x3, x4, x5, x6, x7, x8⟩ ⟨y10, y11, y12⟩).p) -∗ K ⟨⟩))
      ⊢ wp frame (wpE (defs₀ (F := F)) Variants.none c none) E
          (cc0__fused_body i a1 h1 a2 h2 a3 h3 a4 h4 a5 h5 a6 h6 a7 h7 a8 h8 a9 h9 a10 h10 a11 h11 a12 h12) K := by
  simp only [cc0__fused_body_eq_skeleton]; unfold cc0__fused_body_skel
  simp only [k0_part2_eq_skeleton, k0_part3_eq_skeleton, k0_part4_eq_skeleton, k0_part1_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩,
    ⟨%f7, %e7, H7⟩, ⟨%f8, %e8, H8⟩, ⟨%f9, %e9, H9⟩, ⟨%f10, %e10, H10⟩, ⟨%f11, %e11, H11⟩, ⟨%f12, %e12, H12⟩, Hk⟩
  obtain rfl := h1.eq_unread e1; obtain rfl := h2.eq_unread e2; obtain rfl := h3.eq_unread e3
  obtain rfl := h4.eq_unread e4; obtain rfl := h5.eq_unread e5; obtain rfl := h6.eq_unread e6
  obtain rfl := h7.eq_unread e7; obtain rfl := h8.eq_unread e8; obtain rfl := h9.eq_unread e9
  obtain rfl := h10.eq_unread e10; obtain rfl := h11.eq_unread e11; obtain rfl := h12.eq_unread e12
  sl_exec (disch := first | sl_exact c0 | sl_exact c1)
  sl_step
  iapply Hk
  isplitl [H1]; · iexists _; isplitr; · ipureintro; exact h1.read_unread _
                  iexact H1
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]; · iexists _; isplitr; · ipureintro; exact h7.read_unread _
                  iexact H7
  isplitl [H8]; · iexists _; isplitr; · ipureintro; exact h8.read_unread _
                  iexact H8
  have q1 := (View.readAt_full a1.view (h1.unread x1) inb_S4096x128_S4096x128_0_0).trans e1
  have q2 := (View.readAt_full a2.view (h2.unread x2) inb_S1x4096_S1x4096_0_0).trans e2
  have q3 := (View.readAt_full a3.view (h3.unread x3) inb_S128x2048_S128x2048_0_0).trans e3
  have q4 := (View.readAt_full a4.view (h4.unread x4) inb_S1x2048_S1x2048_0_0).trans e4
  have q5 := (View.readAt_full a5.view (h5.unread x5) inb_S1024x4_S1024x4_0_0).trans e5
  have q6 := (View.readAt_full a6.view (h6.unread x6) inb_S1x4_S1x4_0_0).trans e6
  have q70 : a7.view.readAt (Elt F) (Rect.unit (s := S4x256x124) ![0, 0, 0] S1x256x124.size inb_S4x256x124_S1x256x124_0_0_0).toLoadRect (h7.unread x7)
      = window x7 ![0, 0, 0] ![1, 256, 124] inb_S4x256x124_S1x256x124_0_0_0 :=
    (View.readAt_unit a7.view _ _ rfl inb_S4x256x124_S1x256x124_0_0_0).trans (congrArg (fun X => window X _ _ _) e7)
  have q71 : a7.view.readAt (Elt F) (Rect.unit (s := S4x256x124) ![1, 0, 0] S1x256x124.size inb_S4x256x124_S1x256x124_1_0_0).toLoadRect (h7.unread x7)
      = window x7 ![1, 0, 0] ![1, 256, 124] inb_S4x256x124_S1x256x124_1_0_0 :=
    (View.readAt_unit a7.view _ _ rfl inb_S4x256x124_S1x256x124_1_0_0).trans (congrArg (fun X => window X _ _ _) e7)
  have q72 : a7.view.readAt (Elt F) (Rect.unit (s := S4x256x124) ![2, 0, 0] S1x256x124.size inb_S4x256x124_S1x256x124_2_0_0).toLoadRect (h7.unread x7)
      = window x7 ![2, 0, 0] ![1, 256, 124] inb_S4x256x124_S1x256x124_2_0_0 :=
    (View.readAt_unit a7.view _ _ rfl inb_S4x256x124_S1x256x124_2_0_0).trans (congrArg (fun X => window X _ _ _) e7)
  have q73 : a7.view.readAt (Elt F) (Rect.unit (s := S4x256x124) ![3, 0, 0] ![1, 256, 124] inb_S4x256x124_S1x256x124_3_0_0).toLoadRect (h7.unread x7)
      = window x7 ![3, 0, 0] ![1, 256, 124] inb_S4x256x124_S1x256x124_3_0_0 :=
    (View.readAt_unit a7.view _ _ rfl inb_S4x256x124_S1x256x124_3_0_0).trans (congrArg (fun X => window X _ _ _) e7)
  have q10 := (View.readAt_full a10.view (h10.unread y10) inb_S1x4_S1x4_0_0).trans e10
  have q11 := (View.readAt_full a11.view (h11.unread y11) inb_S64x4_S64x4_0_0).trans e11
  have q120 : a12.view.readAt (Elt F) (Rect.unit (s := S4x64x124) ![0, 0, 0] S1x64x124.size inb_S4x64x124_S1x64x124_0_0_0).toLoadRect (h12.unread y12)
      = slab0 y12 :=
    (View.readAt_unit a12.view _ _ rfl inb_S4x64x124_S1x64x124_0_0_0).trans (congrArg (fun X => window X _ _ _) e12)
  have q121 : a12.view.readAt (Elt F) (Rect.unit (s := S4x64x124) ![1, 0, 0] S1x64x124.size inb_S4x64x124_S1x64x124_1_0_0).toLoadRect (h12.unread y12)
      = slab1 y12 :=
    (View.readAt_unit a12.view _ _ rfl inb_S4x64x124_S1x64x124_1_0_0).trans (congrArg (fun X => window X _ _ _) e12)
  have q122 : a12.view.readAt (Elt F) (Rect.unit (s := S4x64x124) ![2, 0, 0] S1x64x124.size inb_S4x64x124_S1x64x124_2_0_0).toLoadRect (h12.unread y12)
      = slab2 y12 :=
    (View.readAt_unit a12.view _ _ rfl inb_S4x64x124_S1x64x124_2_0_0).trans (congrArg (fun X => window X _ _ _) e12)
  have q123 : a12.view.readAt (Elt F) (Rect.unit (s := S4x64x124) ![3, 0, 0] ![1, 64, 124] inb_S4x64x124_S1x64x124_3_0_0).toLoadRect (h12.unread y12)
      = slab3 y12 :=
    (View.readAt_unit a12.view _ _ rfl inb_S4x64x124_S1x64x124_3_0_0).trans (congrArg (fun X => window X _ _ _) e12)
  have q80 : a8.view.readAt (Elt F) (Rect.unit (s := S4x1x124) ![0, 0, 0] S1x1x124.size inb_S4x1x124_S1x1x124_0_0_0).toLoadRect (h8.unread x8)
      = window x8 ![0, 0, 0] ![1, 1, 124] inb_S4x1x124_S1x1x124_0_0_0 :=
    (View.readAt_unit a8.view _ _ rfl inb_S4x1x124_S1x1x124_0_0_0).trans (congrArg (fun X => window X _ _ _) e8)
  have q81 : a8.view.readAt (Elt F) (Rect.unit (s := S4x1x124) ![1, 0, 0] S1x1x124.size inb_S4x1x124_S1x1x124_1_0_0).toLoadRect (h8.unread x8)
      = window x8 ![1, 0, 0] ![1, 1, 124] inb_S4x1x124_S1x1x124_1_0_0 :=
    (View.readAt_unit a8.view _ _ rfl inb_S4x1x124_S1x1x124_1_0_0).trans (congrArg (fun X => window X _ _ _) e8)
  have q82 : a8.view.readAt (Elt F) (Rect.unit (s := S4x1x124) ![2, 0, 0] ![1, 1, 124] inb_S4x1x124_S1x1x124_2_0_0).toLoadRect (h8.unread x8)
      = window x8 ![2, 0, 0] ![1, 1, 124] inb_S4x1x124_S1x1x124_2_0_0 :=
    (View.readAt_unit a8.view _ _ rfl inb_S4x1x124_S1x1x124_2_0_0).trans (congrArg (fun X => window X _ _ _) e8)
  have q83 : a8.view.readAt (Elt F) (Rect.unit (s := S4x1x124) ![3, 0, 0] ![1, 1, 124] inb_S4x1x124_S1x1x124_3_0_0).toLoadRect (h8.unread x8)
      = window x8 ![3, 0, 0] ![1, 1, 124] inb_S4x1x124_S1x1x124_3_0_0 :=
    (View.readAt_unit a8.view _ _ rfl inb_S4x1x124_S1x1x124_3_0_0).trans (congrArg (fun X => window X _ _ _) e8)
  have p0 : bodyLast.sl.v142 (F := F) c i a1 h1 a2 h2 a3 h3 a4 h4 a5 h5 a6 h6 a7 h7 a10 h10 a12 h12 x1 x2 x3 x4 x5 x6 x7 y10 y12
      = St.stepP0 i ⟨x1, x2, x3, x4, x5, x6, x7, x8⟩ ⟨y10, y11, y12⟩ := by
    refine (View.readAt_unit a12.view _ _ rfl inb_S4x64x124_S1x64x124_0_0_0).trans ?_
    refine (congrArg (fun X => window X _ _ _) (read_slabs a12.view _ [] _ _ _ _)).trans ?_
    refine (slab0_stack _ _ _ _ _).trans ?_
    unfold St.stepP0
    delta bodyLast.sl.H12_4 bodyLast.sl.H11_1 bodyLast.sl.r_11 bodyLast.sl.r_10 bodyLast.sl.r_9 bodyLast.sl.r_8 bodyLast.sl.r_7 bodyLast.sl.r_6 bodyLast.sl.r_5 bodyLast.sl.r_4 bodyLast.sl.r_3 bodyLast.sl.r_2 bodyLast.sl.r_1 bodyLast.sl.r bodyLast.sl.v128 bodyLast.sl.v110 bodyLast.sl.v92
    simp only [In.act, In.gate, In.masked, In.wn0, In.wn1, In.wn2, In.wn3, q1, q2, q3, q4, q5, q6, q70, q71, q72, q73, q10, q11, q120, q121, q122, q123]
  have p1 : bodyLast.sl.v159 (F := F) c i a1 h1 a2 h2 a3 h3 a4 h4 a5 h5 a6 h6 a7 h7 a10 h10 a12 h12 x1 x2 x3 x4 x5 x6 x7 y10 y12
      = St.stepP1 i ⟨x1, x2, x3, x4, x5, x6, x7, x8⟩ ⟨y10, y11, y12⟩ := by
    refine (View.readAt_unit a12.view _ _ rfl inb_S4x64x124_S1x64x124_1_0_0).trans ?_
    refine (congrArg (fun X => window X _ _ _) (read_slabs a12.view _ [] _ _ _ _)).trans ?_
    refine (slab1_stack _ _ _ _ _).trans ?_
    unfold St.stepP1
    delta bodyLast.sl.H12_4 bodyLast.sl.H11_1 bodyLast.sl.r_11 bodyLast.sl.r_10 bodyLast.sl.r_9 bodyLast.sl.r_8 bodyLast.sl.r_7 bodyLast.sl.r_6 bodyLast.sl.r_5 bodyLast.sl.r_4 bodyLast.sl.r_3 bodyLast.sl.r_2 bodyLast.sl.r_1 bodyLast.sl.r bodyLast.sl.v128 bodyLast.sl.v110 bodyLast.sl.v92
    simp only [In.act, In.gate, In.masked, In.wn0, In.wn1, In.wn2, In.wn3, q1, q2, q3, q4, q5, q6, q70, q71, q72, q73, q10, q11, q120, q121, q122, q123]
  have p2 : bodyLast.sl.v176 (F := F) c i a1 h1 a2 h2 a3 h3 a4 h4 a5 h5 a6 h6 a7 h7 a10 h10 a12 h12 x1 x2 x3 x4 x5 x6 x7 y10 y12
      = St.stepP2 i ⟨x1, x2, x3, x4, x5, x6, x7, x8⟩ ⟨y10, y11, y12⟩ := by
    refine (View.readAt_unit a12.view _ _ rfl inb_S4x64x124_S1x64x124_2_0_0).trans ?_
    refine (congrArg (fun X => window X _ _ _) (read_slabs a12.view _ [] _ _ _ _)).trans ?_
    refine (slab2_stack _ _ _ _ _).trans ?_
    unfold St.stepP2
    delta bodyLast.sl.H12_4 bodyLast.sl.H11_1 bodyLast.sl.r_11 bodyLast.sl.r_10 bodyLast.sl.r_9 bodyLast.sl.r_8 bodyLast.sl.r_7 bodyLast.sl.r_6 bodyLast.sl.r_5 bodyLast.sl.r_4 bodyLast.sl.r_3 bodyLast.sl.r_2 bodyLast.sl.r_1 bodyLast.sl.r bodyLast.sl.v128 bodyLast.sl.v110 bodyLast.sl.v92
    simp only [In.act, In.gate, In.masked, In.wn0, In.wn1, In.wn2, In.wn3, q1, q2, q3, q4, q5, q6, q70, q71, q72, q73, q10, q11, q120, q121, q122, q123]
  have p3 : bodyLast.sl.v193 (F := F) c i a1 h1 a2 h2 a3 h3 a4 h4 a5 h5 a6 h6 a7 h7 a10 h10 a12 h12 x1 x2 x3 x4 x5 x6 x7 y10 y12
      = St.stepP3 i ⟨x1, x2, x3, x4, x5, x6, x7, x8⟩ ⟨y10, y11, y12⟩ := by
    refine (View.readAt_unit a12.view _ _ rfl inb_S4x64x124_S1x64x124_3_0_0).trans ?_
    refine (congrArg (fun X => window X _ _ _) (read_slabs a12.view _ [] _ _ _ _)).trans ?_
    refine (slab3_stack _ _ _ _ _).trans ?_
    unfold St.stepP3
    delta bodyLast.sl.H12_4 bodyLast.sl.H11_1 bodyLast.sl.r_11 bodyLast.sl.r_10 bodyLast.sl.r_9 bodyLast.sl.r_8 bodyLast.sl.r_7 bodyLast.sl.r_6 bodyLast.sl.r_5 bodyLast.sl.r_4 bodyLast.sl.r_3 bodyLast.sl.r_2 bodyLast.sl.r_1 bodyLast.sl.r bodyLast.sl.v128 bodyLast.sl.v110 bodyLast.sl.v92
    simp only [In.act, In.gate, In.masked, In.wn0, In.wn1, In.wn2, In.wn3, q1, q2, q3, q4, q5, q6, q70, q71, q72, q73, q10, q11, q120, q121, q122, q123]
  have p4 : bodyLast.sl.v141 (F := F) c i a1 h1 a2 h2 a3 h3 a4 h4 a5 h5 a6 h6 a10 h10 a11 h11 x1 x2 x3 x4 x5 x6 y10 y11
      = St.stepS i ⟨x1, x2, x3, x4, x5, x6, x7, x8⟩ ⟨y10, y11, y12⟩ := by
    refine (View.readCov_full a11.view _ _ _ _).trans ?_
    unfold St.stepS
    delta bodyLast.sl.H12_4 bodyLast.sl.H11_1 bodyLast.sl.r_11 bodyLast.sl.r_10 bodyLast.sl.r_9 bodyLast.sl.r_8 bodyLast.sl.r_7 bodyLast.sl.r_6 bodyLast.sl.r_5 bodyLast.sl.r_4 bodyLast.sl.r_3 bodyLast.sl.r_2 bodyLast.sl.r_1 bodyLast.sl.r bodyLast.sl.v128 bodyLast.sl.v110 bodyLast.sl.v92
    simp only [In.act, In.gate, In.masked, In.wn0, In.wn1, In.wn2, In.wn3, q1, q2, q3, q4, q5, q6, q70, q71, q72, q73, q10, q11, q120, q121, q122, q123]
  isplitl [H9]
  · iexists _; isplitr; swap; · iexact H9
    ipureintro
    refine (read_slabs a9.view _ [] _ _ _ _).trans ?_
    rw [View.writes_nil, e9, p0, p1, p2, p3, p4, q80, q81, q82, q83]
    unfold St.out St.step
    rw [slab0_stack, slab1_stack, slab2_stack, slab3_stack]
  isplitl [H10]
  · iexists _; isplitr; swap; · iexact H10
    ipureintro
    refine (View.read_writes_full a10.view _ _ _ _).trans ?_
    unfold St.step St.stepM
    delta bodyLast.sl.H12_4 bodyLast.sl.H11_1 bodyLast.sl.r_11 bodyLast.sl.r_10 bodyLast.sl.r_9 bodyLast.sl.r_8 bodyLast.sl.r_7 bodyLast.sl.r_6 bodyLast.sl.r_5 bodyLast.sl.r_4 bodyLast.sl.r_3 bodyLast.sl.r_2 bodyLast.sl.r_1 bodyLast.sl.r bodyLast.sl.v128 bodyLast.sl.v110 bodyLast.sl.v92
    simp only [In.act, In.gate, In.masked, In.wn0, In.wn1, In.wn2, In.wn3, q1, q2, q3, q4, q5, q6, q70, q71, q72, q73, q10, q11, q120, q121, q122, q123]
  isplitl [H11]
  · iexists _; isplitr; swap; · iexact H11
    ipureintro
    refine (View.read_writes_full a11.view _ _ _ _).trans ?_
    unfold St.step St.stepS
    delta bodyLast.sl.H12_4 bodyLast.sl.H11_1 bodyLast.sl.r_11 bodyLast.sl.r_10 bodyLast.sl.r_9 bodyLast.sl.r_8 bodyLast.sl.r_7 bodyLast.sl.r_6 bodyLast.sl.r_5 bodyLast.sl.r_4 bodyLast.sl.r_3 bodyLast.sl.r_2 bodyLast.sl.r_1 bodyLast.sl.r bodyLast.sl.v128 bodyLast.sl.v110 bodyLast.sl.v92
    simp only [In.act, In.gate, In.masked, In.wn0, In.wn1, In.wn2, In.wn3, q1, q2, q3, q4, q5, q6, q70, q71, q72, q73, q10, q11, q120, q121, q122, q123]
  iexists _; isplitr; swap; · iexact H12
  ipureintro
  refine (read_slabs a12.view _ [] _ _ _ _).trans ?_
  rw [View.writes_nil, e12]
  unfold St.step St.stepP0 St.stepP1 St.stepP2 St.stepP3
  delta bodyLast.sl.H12_4 bodyLast.sl.H11_1 bodyLast.sl.r_11 bodyLast.sl.r_10 bodyLast.sl.r_9 bodyLast.sl.r_8 bodyLast.sl.r_7 bodyLast.sl.r_6 bodyLast.sl.r_5 bodyLast.sl.r_4 bodyLast.sl.r_3 bodyLast.sl.r_2 bodyLast.sl.r_1 bodyLast.sl.r bodyLast.sl.v128 bodyLast.sl.v110 bodyLast.sl.v92
  simp only [In.act, In.gate, In.masked, In.wn0, In.wn1, In.wn2, In.wn3, q1, q2, q3, q4, q5, q6, q70, q71, q72, q73, q10, q11, q120, q121, q122, q123]

end Cert.IdealRun

end
-- ==== Proof.IdealCall.lean ====
/-
  One call of the body at any point of the grid, the three kinds of point gathered into one statement.
-/
module

public import proofs.«01_k».proof.Proof.IdealFirst
public import proofs.«01_k».proof.Proof.IdealMid
public import proofs.«01_k».proof.Proof.IdealLast

@[expose] public section

set_option maxRecDepth 16384

noncomputable section

namespace Cert.IdealRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem first_iff (t : Fin cfg0.N) : first (grid0.coords t) ↔ t.val = 0 := by
  have ht : t.val < 13 := Nat.lt_of_lt_of_eq t.isLt N_0
  have e0 : (grid0.coords t 0).val = t.val / 1 % 13 := Pipeline.Grid.coords_val t 0 (by decide) rfl
  have e : first (grid0.coords t) ↔ t.val % 13 = 0 := by
    simp only [first, e0]
    word_cmp
  rw [e]; omega

theorem last_iff (t : Fin cfg0.N) : last (grid0.coords t) ↔ t.val = 12 := by
  have ht : t.val < 13 := Nat.lt_of_lt_of_eq t.isLt N_0
  have e0 : (grid0.coords t 0).val = t.val / 1 % 13 := Pipeline.Grid.coords_val t 0 (by decide) rfl
  have e : last (grid0.coords t) ↔ t.val % 13 = 12 := by
    simp only [last, k0_cond2, e0]
    word_cmp
  rw [e]; omega

/-- The grid coordinate of a point is its number. -/
theorem coord_eq (t : Fin cfg0.N) : (grid0.coords t 0).val = t.val := by
  have ht : t.val < 13 := Nat.lt_of_lt_of_eq t.isLt N_0
  have e0 : (grid0.coords t 0).val = t.val / 1 % 13 := Pipeline.Grid.coords_val t 0 (by decide) rfl
  omega

/-- The state a point's call starts from: the initial one at the first point, else what the scratch buffers hold. -/
def start (t : Fin cfg0.N) (S : St F) : St F := if t.val = 0 then St.init else S

/-- What a point's call leaves in the result's buffer, of what it held. -/
def stored (t : Fin cfg0.N) (I : In F) (S : St F) (y : Vec F S4x64x124 .f32) : Vec F S4x64x124 .f32 :=
  if t.val = 12 then St.out I S y else y

set_option maxHeartbeats 4000000 in
theorem call (c : Dev nD) (t : Fin cfg0.N) (I : In F) (S : St F) (y : Vec F S4x64x124 .f32) (K : PUnit → sProp 𝕄) :
    iprop(owns (c : Thread nD τ) (st0_0 t) fullShare I.x ∗ owns (c : Thread nD τ) (st0_1 t) fullShare I.batch
        ∗ owns (c : Thread nD τ) (st0_2 t) fullShare I.w1 ∗ owns (c : Thread nD τ) (st0_3 t) fullShare I.b1
        ∗ owns (c : Thread nD τ) (st0_4 t) fullShare I.w2 ∗ owns (c : Thread nD τ) (st0_5 t) fullShare I.b2
        ∗ owns (c : Thread nD τ) (st0_6 t) fullShare I.wn ∗ owns (c : Thread nD τ) (st0_7 t) fullShare I.bn
        ∗ owns (c : Thread nD τ) (st0_8 t) fullShare y ∗ owns (c : Thread nD τ) (Memref.whole cc0_scratch0) fullShare S.m
        ∗ owns (c : Thread nD τ) (Memref.whole cc0_scratch1) fullShare S.s
        ∗ owns (c : Thread nD τ) (Memref.whole cc0_scratch2) fullShare S.p
        ∗ (iprop(owns (c : Thread nD τ) (st0_0 t) fullShare I.x ∗ owns (c : Thread nD τ) (st0_1 t) fullShare I.batch
            ∗ owns (c : Thread nD τ) (st0_2 t) fullShare I.w1 ∗ owns (c : Thread nD τ) (st0_3 t) fullShare I.b1
            ∗ owns (c : Thread nD τ) (st0_4 t) fullShare I.w2 ∗ owns (c : Thread nD τ) (st0_5 t) fullShare I.b2
            ∗ owns (c : Thread nD τ) (st0_6 t) fullShare I.wn ∗ owns (c : Thread nD τ) (st0_7 t) fullShare I.bn
            ∗ owns (c : Thread nD τ) (st0_8 t) fullShare (stored t I (St.step (grid0.coords t) I (start t S)) y)
            ∗ owns (c : Thread nD τ) (Memref.whole cc0_scratch0) fullShare (St.step (grid0.coords t) I (start t S)).m
            ∗ owns (c : Thread nD τ) (Memref.whole cc0_scratch1) fullShare (St.step (grid0.coords t) I (start t S)).s
            ∗ owns (c : Thread nD τ) (Memref.whole cc0_scratch2) fullShare (St.step (grid0.coords t) I (start t S)).p) -∗ K ⟨⟩))
      ⊢ wp frame (wpE (defs₀ (F := F)) Variants.none c none) Set.univ (bodyAt0 t) K := by
  unfold bodyAt0 start stored
  by_cases h0 : t.val = 0
  · have h1 : ¬t.val = 12 := by omega
    rw [if_pos h0, if_neg h1]
    exact bodyFirst c (grid0.coords t) _ _ _ _ _ _ _ _ _ _ _ _ _ _ _ _ _ _ _ _ _ _ _ _ I.x I.batch I.w1 I.b1 I.w2 I.b2 I.wn I.bn
      y S.m S.s S.p ((first_iff t).mpr h0) (mt (last_iff t).mp h1) Set.univ K
  · rw [if_neg h0]
    by_cases h1 : t.val = 12
    · rw [if_pos h1]
      exact bodyLast c (grid0.coords t) _ _ _ _ _ _ _ _ _ _ _ _ _ _ _ _ _ _ _ _ _ _ _ _ I.x I.batch I.w1 I.b1 I.w2 I.b2 I.wn I.bn
        y S.m S.s S.p (mt (first_iff t).mp h0) ((last_iff t).mpr h1) Set.univ K
    · rw [if_neg h1]
      exact bodyMid c (grid0.coords t) _ _ _ _ _ _ _ _ _ _ _ _ _ _ _ _ _ _ _ _ _ _ _ _ I.x I.batch I.w1 I.b1 I.w2 I.b2 I.wn I.bn
        y S.m S.s S.p (mt (first_iff t).mp h0) (mt (last_iff t).mp h1) Set.univ K

end Cert.IdealRun

end
-- ==== Proof.Online.lean ====
/-
  The running softmax, over the extended reals.

  The rows of an array come in blocks of 4096. From block to block the kernel keeps the greatest gate seen so far, the sum
  of the exponentials of the gates less that maximum, and the same sum weighted by the rows' values; when the maximum
  grows, the two sums are multiplied by the exponential of the difference. Here those three are stated in closed form (the
  maximum and the sums over the first `n` blocks) and one step is shown to lead from the closed form at `n` to the one at
  `n + 1`. No gate and no value need be finite: an exponential of a gate less a greater or equal maximum is a real number
  between 0 and 1, and multiplication by such a number distributes over sums of extended reals.
-/
module

public import Idealize.ShloMosaic.PureOps.Ideal

@[expose] public section

noncomputable section

namespace Cert.Online

open Idealize.ShloMosaic

/-! ## Exponentials of differences -/

theorem exp_nonneg (x : EReal) : 0 ≤ Ideal.exp x := by
  induction x with
  | bot => exact le_of_eq rfl
  | top => exact le_top
  | coe r => exact EReal.coe_nonneg.mpr (Real.exp_pos r).le

theorem exp_bot : Ideal.exp ⊥ = 0 := rfl

/-- A difference `g - m` with `g ≤ m` is never `⊤`. -/
theorem sub_ne_top {g m : EReal} (h : g ≤ m) : g - m ≠ ⊤ := by
  induction m with
  | bot => obtain rfl := le_bot_iff.mp h; simp
  | top => simp
  | coe r =>
    induction g with
    | bot => simp
    | top => exact absurd h (by simp)
    | coe s => rw [← EReal.coe_sub]; exact EReal.coe_ne_top _

theorem exp_ne_top {x : EReal} (h : x ≠ ⊤) : Ideal.exp x ≠ ⊤ := by
  induction x with
  | bot => exact EReal.zero_ne_top
  | top => exact absurd rfl h
  | coe r => exact EReal.coe_ne_top _

theorem exp_sub_ne_top {g m : EReal} (h : g ≤ m) : Ideal.exp (g - m) ≠ ⊤ := exp_ne_top (sub_ne_top h)

/-- Raising the maximum from `m` to `m'` multiplies the exponential of a gate by the exponential of the difference. -/
theorem exp_rescale {g m m' : EReal} (h : g ≤ m) (h' : m ≤ m') :
    Ideal.exp (g - m) * Ideal.exp (m - m') = Ideal.exp (g - m') := by
  induction m' with
  | bot =>
    obtain rfl := le_bot_iff.mp h'
    obtain rfl := le_bot_iff.mp h
    simp [exp_bot]
  | top => simp [exp_bot]
  | coe r' =>
    induction m with
    | bot =>
      obtain rfl := le_bot_iff.mp h
      simp [exp_bot]
    | top => exact absurd h' (by simp)
    | coe r =>
      induction g with
      | bot => simp [exp_bot]
      | top => exact absurd h (by simp)
      | coe s =>
        rw [← EReal.coe_sub, ← EReal.coe_sub, ← EReal.coe_sub]
        show ((Real.exp (s - r) : ℝ) : EReal) * ((Real.exp (r - r') : ℝ) : EReal) = ((Real.exp (s - r') : ℝ) : EReal)
        rw [← EReal.coe_mul, ← Real.exp_add]
        congr 2
        ring

/-! ## Sums times a number -/

/-- A nonnegative number other than `⊤` distributes over any sum. -/
theorem sum_mul {ι : Type} (s : Finset ι) (f : ι → EReal) {c : EReal} (h0 : 0 ≤ c) (ht : c ≠ ⊤) :
    (∑ x ∈ s, f x) * c = ∑ x ∈ s, f x * c := by
  classical
  induction s using Finset.induction_on with
  | empty => simp
  | insert a s ha ih =>
    rw [Finset.sum_insert ha, Finset.sum_insert ha, mul_comm, EReal.left_distrib_of_nonneg_of_ne_top h0 ht, ← ih,
      mul_comm c, mul_comm c]

/-- A sum of nonnegative numbers distributes over any number. -/
theorem sum_mul_of_nonneg {ι : Type} (s : Finset ι) (f : ι → EReal) (hf : ∀ x ∈ s, 0 ≤ f x) (c : EReal) :
    (∑ x ∈ s, f x) * c = ∑ x ∈ s, f x * c := by
  classical
  induction s using Finset.induction_on with
  | empty => simp
  | insert a s ha ih =>
    have h1 : ∀ x ∈ s, 0 ≤ f x := fun x hx => hf x (Finset.mem_insert_of_mem hx)
    rw [Finset.sum_insert ha, Finset.sum_insert ha,
      EReal.right_distrib_of_nonneg (hf a (Finset.mem_insert_self a s)) (Finset.sum_nonneg h1), ih h1]

theorem sum_ne_top {ι : Type} (s : Finset ι) (f : ι → EReal) (hf : ∀ x ∈ s, f x ≠ ⊤) : ∑ x ∈ s, f x ≠ ⊤ := by
  classical
  induction s using Finset.induction_on with
  | empty => simp
  | insert a s ha ih =>
    rw [Finset.sum_insert ha]
    exact EReal.add_ne_top (hf a (Finset.mem_insert_self a s)) (ih fun x hx => hf x (Finset.mem_insert_of_mem hx))

/-! ## The closed form and one step -/

section Step

variable (G : ℕ → EReal) (h : ℕ → EReal) (O : ℕ → EReal)

/-- The greatest gate of the first `n` blocks. -/
def top (n : ℕ) : EReal := (Finset.range (4096 * n)).sup G

/-- The sum of the exponentials over the first `n` blocks, of the rows `h` selects. -/
def den (n : ℕ) : EReal := ∑ x ∈ Finset.range (4096 * n), h x * Ideal.exp (G x - top G n)

/-- The same sum weighted by the rows' values. -/
def num (n : ℕ) : EReal := ∑ x ∈ Finset.range (4096 * n), h x * Ideal.exp (G x - top G n) * O x

theorem top_zero : top G 0 = ⊥ := rfl
theorem den_zero : den G h 0 = 0 := rfl
theorem num_zero : num G h O 0 = 0 := rfl

/-- The maximum after one more block. -/
theorem top_succ (n : ℕ) : top G (n + 1) = max (top G n) ((Finset.univ : Finset (Fin 4096)).sup fun r => G (4096 * n + r.val)) := by
  apply le_antisymm
  · refine Finset.sup_le fun x hx => ?_
    rw [Finset.mem_range] at hx
    by_cases hlt : x < 4096 * n
    · exact le_max_of_le_left (Finset.le_sup (f := G) (Finset.mem_range.mpr hlt))
    · refine le_max_of_le_right ?_
      have h2 := Finset.le_sup (f := fun r : Fin 4096 => G (4096 * n + r.val)) (Finset.mem_univ (⟨x - 4096 * n, by omega⟩ : Fin 4096))
      rwa [show 4096 * n + (x - 4096 * n) = x by omega] at h2
  · refine max_le (Finset.sup_mono fun x hx => ?_) (Finset.sup_le fun r _ => ?_)
    · rw [Finset.mem_range] at hx ⊢; omega
    · exact Finset.le_sup (f := G) (Finset.mem_range.mpr (by have := r.isLt; omega))

theorem top_mono (n : ℕ) : top G n ≤ top G (n + 1) := by
  rw [top_succ]; exact le_max_left _ _

theorem le_top_of_mem {n x : ℕ} (hx : x ∈ Finset.range (4096 * n)) : G x ≤ top G n := Finset.le_sup hx

/-- A sum over one more block. -/
theorem sum_succ (f : ℕ → EReal) (n : ℕ) :
    ∑ x ∈ Finset.range (4096 * (n + 1)), f x
      = ∑ x ∈ Finset.range (4096 * n), f x + ∑ r : Fin 4096, f (4096 * n + r.val) := by
  rw [show 4096 * (n + 1) = 4096 * n + 4096 by ring, Finset.sum_range_add, Fin.sum_univ_eq_sum_range (fun r => f (4096 * n + r))]

/-- The denominator after one more block. -/
theorem den_succ (n : ℕ) :
    den G h (n + 1) = den G h n * Ideal.exp (top G n - top G (n + 1))
      + ∑ r : Fin 4096, h (4096 * n + r.val) * Ideal.exp (G (4096 * n + r.val) - top G (n + 1)) := by
  unfold den
  rw [sum_succ, sum_mul _ _ (exp_nonneg _) (exp_sub_ne_top (top_mono G n))]
  congr 1
  refine Finset.sum_congr rfl fun x hx => ?_
  rw [mul_assoc, exp_rescale (le_top_of_mem G hx) (top_mono G n)]

/-- The numerator after one more block. -/
theorem num_succ (n : ℕ) :
    num G h O (n + 1) = num G h O n * Ideal.exp (top G n - top G (n + 1))
      + ∑ r : Fin 4096, h (4096 * n + r.val) * Ideal.exp (G (4096 * n + r.val) - top G (n + 1)) * O (4096 * n + r.val) := by
  unfold num
  rw [sum_succ, sum_mul _ _ (exp_nonneg _) (exp_sub_ne_top (top_mono G n))]
  congr 1
  refine Finset.sum_congr rfl fun x hx => ?_
  rw [← exp_rescale (le_top_of_mem G hx) (top_mono G n), ← mul_assoc, mul_right_comm]

end Step

/-! ## All 50000 rows

Thirteen blocks hold 53248 rows, of which the first 50000 exist. A row that does not exist has gate `⊥`, so its
exponential is zero and it adds nothing, whatever its value. -/

/-- A row's quantity, for every natural number: `d` past the last row. -/
def extend (d : EReal) (f : Fin 50000 → EReal) (x : ℕ) : EReal := if hx : x < 50000 then f ⟨x, hx⟩ else d

theorem extend_of_lt (d : EReal) (f : Fin 50000 → EReal) {x : ℕ} (hx : x < 50000) : extend d f x = f ⟨x, hx⟩ := dif_pos hx
theorem extend_of_not_lt (d : EReal) (f : Fin 50000 → EReal) {x : ℕ} (hx : ¬ x < 50000) : extend d f x = d := dif_neg hx

section All

variable (G : Fin 50000 → EReal) (p : Fin 50000 → Prop) [DecidablePred p] (O : Fin 50000 → EReal)

/-- The greatest gate of all rows. -/
theorem top_all : top (extend ⊥ G) 13 = Finset.univ.sup G := by
  apply le_antisymm
  · refine Finset.sup_le fun x _ => ?_
    by_cases hx : x < 50000
    · rw [extend_of_lt _ _ hx]; exact Finset.le_sup (f := G) (Finset.mem_univ _)
    · rw [extend_of_not_lt _ _ hx]; exact bot_le
  · refine Finset.sup_le fun x _ => ?_
    have h2 := Finset.le_sup (f := extend ⊥ G) (Finset.mem_range.mpr (show x.val < 4096 * 13 by have := x.isLt; omega))
    rwa [extend_of_lt _ _ x.isLt] at h2

/-- A sum over the 53248 rows of thirteen blocks whose terms past the last row are zero. -/
theorem sum_all (f : ℕ → EReal) (hf : ∀ x, ¬ x < 50000 → f x = 0) :
    ∑ x ∈ Finset.range (4096 * 13), f x = ∑ x : Fin 50000, f x.val := by
  rw [Fin.sum_univ_eq_sum_range f 50000]
  refine (Finset.sum_subset (fun x hx => ?_) fun x _ hx => ?_).symm
  · rw [Finset.mem_range] at hx ⊢; omega
  · exact hf x fun h => hx (Finset.mem_range.mpr h)

/-- Which rows a segment holds, as a number. -/
def pick : Fin 50000 → EReal := fun x => if p x then 1 else 0

theorem den_all : den (extend ⊥ G) (extend 0 (pick p)) 13
    = ∑ x ∈ Finset.univ.filter p, Ideal.exp (G x - Finset.univ.sup G) := by
  unfold den
  rw [top_all, sum_all _ fun x hx => by rw [extend_of_not_lt _ _ hx, zero_mul], Finset.sum_filter]
  refine Finset.sum_congr rfl fun x _ => ?_
  rw [extend_of_lt _ _ x.isLt, extend_of_lt _ _ x.isLt]
  unfold pick
  split
  · rw [one_mul]
  · rw [zero_mul]

theorem num_all : num (extend ⊥ G) (extend 0 (pick p)) (extend 0 O) 13
    = ∑ x ∈ Finset.univ.filter p, Ideal.exp (G x - Finset.univ.sup G) * O x := by
  unfold num
  rw [top_all, sum_all _ fun x hx => by rw [extend_of_not_lt _ (pick p) hx, zero_mul, zero_mul], Finset.sum_filter]
  refine Finset.sum_congr rfl fun x _ => ?_
  rw [extend_of_lt _ _ x.isLt, extend_of_lt _ _ x.isLt, extend_of_lt _ _ x.isLt]
  unfold pick
  split
  · rw [one_mul]
  · rw [zero_mul, zero_mul]

/-- The quotient the kernel takes at the end is the sum of the rows' values, each with the bias added, weighted by the
    rows' own quotients. -/
theorem quotient (b : EReal) {eps : ℝ} (he : 0 < eps) :
    Ideal.div (num (extend ⊥ G) (extend 0 (pick p)) (extend 0 O) 13 + den (extend ⊥ G) (extend 0 (pick p)) 13 * b)
        (den (extend ⊥ G) (extend 0 (pick p)) 13 + (eps : EReal))
      = ∑ x ∈ Finset.univ.filter p,
          Ideal.div (Ideal.exp (G x - Finset.univ.sup G))
            ((∑ y ∈ Finset.univ.filter p, Ideal.exp (G y - Finset.univ.sup G)) + (eps : EReal)) * (O x + b) := by
  rw [num_all, den_all]
  have hle : ∀ x : Fin 50000, G x ≤ Finset.univ.sup G := fun x => Finset.le_sup (f := G) (Finset.mem_univ x)
  have h0 : 0 ≤ ∑ y ∈ Finset.univ.filter p, Ideal.exp (G y - Finset.univ.sup G) := Finset.sum_nonneg fun x _ => exp_nonneg _
  have ht : ∑ y ∈ Finset.univ.filter p, Ideal.exp (G y - Finset.univ.sup G) ≠ ⊤ :=
    sum_ne_top _ _ fun x _ => exp_sub_ne_top (hle x)
  obtain ⟨d, hd⟩ : ∃ d : ℝ, ∑ y ∈ Finset.univ.filter p, Ideal.exp (G y - Finset.univ.sup G) = (d : EReal) :=
    ⟨_, (EReal.coe_toReal ht fun h => by rw [h] at h0; exact absurd h0 (by simp)).symm⟩
  have hd0 : 0 ≤ d := EReal.coe_nonneg.mp (hd ▸ h0)
  have hy : d + eps ≠ 0 := by positivity
  have hc : (0 : EReal) ≤ ((1 / (d + eps) : ℝ) : EReal) := EReal.coe_nonneg.mpr (by positivity)
  have hq : ∀ X : EReal, Ideal.div X ((∑ y ∈ Finset.univ.filter p, Ideal.exp (G y - Finset.univ.sup G)) + (eps : EReal))
      = X * ((1 / (d + eps) : ℝ) : EReal) := fun X => by
    rw [hd, ← EReal.coe_add, Ideal.div_coe hy]
  rw [hq, sum_mul_of_nonneg _ _ (fun x _ => exp_nonneg _) b, ← Finset.sum_add_distrib, sum_mul _ _ hc (EReal.coe_ne_top _)]
  refine Finset.sum_congr rfl fun x _ => ?_
  rw [hq, ← EReal.left_distrib_of_nonneg_of_ne_top (exp_nonneg _) (exp_sub_ne_top (hle x)), mul_right_comm]

end All

end Cert.Online

end
-- ==== Proof.IdealRead.lean ====
/-
  The body's step over the extended reals, read element by element, and its closed form.

  `Arr` holds the whole arrays the launch reads. `Arr.gate`, `Arr.val` and `Arr.member` are the gate and the value of a row
  in a pool and whether the row belongs to a graph; `Arr.closed n` is the state after `n` blocks of rows, in closed form.
  A point of the grid reads a block of rows of which some may lie past the arrays' end; `Agrees` says that the block agrees
  with the arrays where the arrays exist, and nothing of the rest. One step from the closed form at `n` gives the closed
  form at `n + 1`.
-/
module

public import proofs.«01_k».proof.Proof.IdealState
public import proofs.«01_k».proof.Proof.Online
public import Idealize.ShloMosaic.Lib.Pointwise
public import Idealize.ShloMosaic.Lib.WordCmp

@[expose] public section

set_option maxRecDepth 16384

noncomputable section

namespace Cert.IdealRun

open Cert.KernelIdeal Cert.KernelIdeal.Gen
open Idealize.ShloMosaic
open VecWindow (window put)
open Cert.Online

attribute [local irreducible] top den num extend

/-- The arrays the launch reads. -/
structure Arr where
  x : Vec Ideal S50000x128 .f32
  batch : Vec Ideal S1x50000 .f32
  w1 : Vec Ideal S128x2048 .bf16
  b1 : Vec Ideal S1x2048 .f32
  w2 : Vec Ideal S1024x4 .bf16
  b2 : Vec Ideal S1x4 .f32
  wn : Vec Ideal S4x256x124 .bf16
  bn : Vec Ideal S4x1x124 .f32

namespace Arr

variable (A : Arr)

/-- A row's activated first layer. -/
def act (row : Fin 50000) (j : Fin 2048) : EReal :=
  max (∑ d : Fin 128, A.x (ix2 row d) * A.w1 (ix2 d j) + A.b1 (ix2 0 j)) 0

/-- A row's gate in pool `k`. -/
def gate (k : Fin 4) (row : Fin 50000) : EReal :=
  ∑ j : Fin 1024, A.act row ⟨j.val, by have := j.isLt; omega⟩ * A.w2 (ix2 j k) + A.b2 (ix2 0 k)

/-- A row's value in pool `k`, without the bias. -/
def val (k : Fin 4) (c : Fin 124) (row : Fin 50000) : EReal :=
  ∑ j : Fin 256, A.act row ⟨1024 + 256 * k.val + j.val, by have := j.isLt; have := k.isLt; omega⟩ * A.wn (ix3 k j c)

/-- Whether a row belongs to graph `g`. -/
def member (g : Fin 64) (row : Fin 50000) : Prop := A.batch (ix2 0 row) = ((g.val : ℝ) : EReal)

instance (g : Fin 64) : DecidablePred (A.member g) := fun _ => Classical.propDecidable _

/-- The running maximum of pool `k`, and the running denominator and numerator of graph `g` in it, after `n` blocks. -/
def closedM (n : ℕ) (k : Fin 4) : EReal := top (extend ⊥ (A.gate k)) n
def closedS (n : ℕ) (g : Fin 64) (k : Fin 4) : EReal := den (extend ⊥ (A.gate k)) (extend 0 (pick (A.member g))) n
def closedP (n : ℕ) (k : Fin 4) (g : Fin 64) (c : Fin 124) : EReal :=
  num (extend ⊥ (A.gate k)) (extend 0 (pick (A.member g))) (extend 0 (A.val k c)) n

/-- The state after `n` blocks of rows. -/
def closed (n : ℕ) : St Ideal where
  m := fun j => A.closedM n (j 1)
  s := fun j => A.closedS n (j 0) (j 1)
  p := fun j => A.closedP n (j 0) (j 1) (j 2)

end Arr

/-- A point's blocks agree with the arrays on the rows that exist. -/
structure Agrees (A : Arr) (n : ℕ) (I : In Ideal) : Prop where
  x : ∀ (r : Fin 4096) (h : 4096 * n + r.val < 50000) (d : Fin 128), I.x (ix2 r d) = A.x (ix2 ⟨4096 * n + r.val, h⟩ d)
  batch : ∀ (r : Fin 4096) (h : 4096 * n + r.val < 50000), I.batch (ix2 0 r) = A.batch (ix2 0 ⟨4096 * n + r.val, h⟩)
  w1 : I.w1 = A.w1
  b1 : I.b1 = A.b1
  w2 : I.w2 = A.w2
  b2 : I.b2 = A.b2
  wn : I.wn = A.wn
  bn : I.bn = A.bn

/-- The word the body compares a row's number with the array's height by. -/
theorem valid_word (n r : ℕ) (hn : n < 13) (hr : r < 4096) :
    IntOp.cmpi .slt (IntOp.addi (BitVec.ofNat 32 r) (Scalar.muli (BitVec.ofNat 32 n) 4096#32)) 50000#32
      = BitVec.ofBool (decide (4096 * n + r < 50000)) := by
  have e : IntOp.addi (BitVec.ofNat 32 r) (Scalar.muli (BitVec.ofNat 32 n) 4096#32) = BitVec.ofNat 32 (4096 * n + r) := by
    apply BitVec.eq_of_toNat_eq
    show ((BitVec.ofNat 32 r) + (BitVec.ofNat 32 n) * 4096#32).toNat = _
    simp only [BitVec.toNat_add, BitVec.toNat_mul, BitVec.toNat_ofNat]
    omega
  rw [e, show (50000#32 : BitVec 32) = BitVec.ofNat 32 50000 from rfl,
    WordCmp.cmpi_slt_ofNat (by norm_num; omega) (by norm_num)]

theorem select_valid {α : Type} (n r : ℕ) (hn : n < 13) (hr : r < 4096) (a b : α) :
    Scalar.select (IntOp.cmpi .slt (IntOp.addi (BitVec.ofNat 32 r) (Scalar.muli (BitVec.ofNat 32 n) 4096#32)) 50000#32) a b
      = if 4096 * n + r < 50000 then a else b := by
  rw [valid_word n r hn hr]
  by_cases h : 4096 * n + r < 50000 <;> simp [h, Scalar.select]

theorem mask_eq : (Named.named κ "mask" 4048155338#32 : Ideal .f32) = (⊥ : EReal) := by
  show (κ "mask").getD _ = _
  rfl

/-- Slab `k` of a stack, read at an index. -/
theorem window_ix3 {n0 n1 n2 : ℕ} {α : Type} (x : (⟨3, ![n0, n1, n2]⟩ : Shape).Idx → α) (k : Fin n0)
    (inb : ∀ a, (![k.val, 0, 0] : Fin 3 → ℕ) a + (![1, n1, n2] : Fin 3 → ℕ) a ≤ (![n0, n1, n2] : Fin 3 → ℕ) a) (g : Fin n1) (c : Fin n2) :
    window (s := ⟨3, ![n0, n1, n2]⟩) x ![k.val, 0, 0] ![1, n1, n2] inb (ix3 (0 : Fin 1) g c) = x (ix3 k g c) := by
  unfold window
  refine congrArg x (funext fun a => Fin.ext ?_)
  fin_cases a
  · show k.val + 1 * 0 = k.val; omega
  · show 0 + 1 * g.val = g.val; omega
  · show 0 + 1 * c.val = c.val; omega

/-- Two stacks of four slabs are equal when their slabs are. -/
theorem ext_slabs {P Q : Vec Ideal S4x64x124 .f32} (h0 : slab0 P = slab0 Q) (h1 : slab1 P = slab1 Q) (h2 : slab2 P = slab2 Q)
    (h3 : slab3 P = slab3 Q) : P = Q := by
  funext j
  obtain ⟨k, g, c, rfl⟩ : ∃ (k : Fin 4) (g : Fin 64) (c : Fin 124), j = ix3 k g c := ⟨_, _, _, eq_ix3 j⟩
  fin_cases k
  · exact (window_ix3 (n0 := 4) P 0 _ g c).symm.trans ((congrFun h0 _).trans (window_ix3 (n0 := 4) Q 0 _ g c))
  · exact (window_ix3 (n0 := 4) P 1 _ g c).symm.trans ((congrFun h1 _).trans (window_ix3 (n0 := 4) Q 1 _ g c))
  · exact (window_ix3 (n0 := 4) P 2 _ g c).symm.trans ((congrFun h2 _).trans (window_ix3 (n0 := 4) Q 2 _ g c))
  · exact (window_ix3 (n0 := 4) P 3 _ g c).symm.trans ((congrFun h3 _).trans (window_ix3 (n0 := 4) Q 3 _ g c))

/-- A slab is what it reads at each index. -/
theorem ext_slab {P Q : Vec Ideal S1x64x124 .f32} (h : ∀ (g : Fin 64) (c : Fin 124), P (ix3 0 g c) = Q (ix3 0 g c)) : P = Q := by
  funext j
  obtain ⟨a, g, c, rfl⟩ : ∃ (a : Fin 1) (g : Fin 64) (c : Fin 124), j = ix3 a g c := ⟨_, _, _, eq_ix3 j⟩
  obtain rfl : a = 0 := Subsingleton.elim _ _
  exact h g c

/-- The word the maximum over a block starts from. -/
theorem negInf_eq : (Ideal.ofBits FTy.f32 4286578688#32 : EReal) = ⊥ := by
  simp [Ideal.ofBits, Ideal.ieee]

/-- An integer as a number, and a truth bit as a number. -/
theorem sitofp_eq (b : BitVec 32) : (FloatOps.sitofp FTy.f32 b : Ideal .f32) = ((b.toInt : ℝ) : EReal) := rfl

theorem sitofp_small (g : ℕ) (hg : g < 64) : (FloatOps.sitofp FTy.f32 (BitVec.ofNat 32 g) : Ideal .f32) = ((g : ℝ) : EReal) := by
  rw [sitofp_eq]
  have e : (BitVec.ofNat 32 g).toInt = (g : ℤ) := by
    rw [BitVec.toInt_eq_toNat_cond, BitVec.toNat_ofNat]; omega
  rw [e, Int.cast_natCast]

theorem sitofp_bit (q : Prop) [Decidable q] :
    (FloatOps.sitofp FTy.f32 (BitVec.setWidth 32 (BitVec.ofBool (decide q))) : Ideal .f32) = if q then (1 : EReal) else 0 := by
  rw [sitofp_eq]
  by_cases hq : q <;> simp [hq]

section Read

variable {A : Arr} {i : grid0.Coords} {I : In Ideal} (h : Agrees A (i 0).val I)
include h

omit h in
theorem point_lt : (i 0).val < 13 := (i 0).isLt

theorem act_read (r : Fin 4096) (hr : 4096 * (i 0).val + r.val < 50000) (j : Fin 2048) :
    I.act i (ix2 r j) = A.act ⟨4096 * (i 0).val + r.val, hr⟩ j := by
  unfold Arr.act
  pointwise [k0_pay11, k0_pay10]
  simp only [select_valid _ _ point_lt r.isLt, if_pos hr, h.x r hr, h.w1, h.b1]

theorem gate_read (r : Fin 4096) (k : Fin 4) :
    I.gate i (ix2 r k) = extend ⊥ (A.gate k) (4096 * (i 0).val + r.val) := by
  pointwise [k0_pay12, k0_pay10]
  rw [select_valid _ _ point_lt r.isLt, mask_eq]
  by_cases hr : 4096 * (i 0).val + r.val < 50000
  · rw [if_pos hr, extend_of_lt _ _ hr]
    unfold Arr.gate
    refine congrArg₂ _ (Finset.sum_congr rfl fun x _ => ?_) (by rw [h.b2])
    rw [h.w2]
    exact congrArg (· * _) (act_read h r hr _)
  · rw [if_neg hr, extend_of_not_lt _ _ hr]

theorem masked_read (k : Fin 4) :
    I.masked i (ix1 k) = Finset.univ.sup fun r : Fin 4096 => extend ⊥ (A.gate k) (4096 * (i 0).val + r.val) := by
  pointwise [k0_pay13]
  rw [negInf_eq]
  exact Finset.sup_congr rfl fun r _ => gate_read h r k

/-- Whether the block's row `r` is compared equal to `g`. -/
theorem member_read (r : Fin 4096) (g : Fin 64) (hr : 4096 * (i 0).val + r.val < 50000) :
    k0_pay18 I.batch (ix2 r g) = extend 0 (pick (A.member g)) (4096 * (i 0).val + r.val) := by
  rw [extend_of_lt _ _ hr]
  unfold pick Arr.member
  pointwise [k0_pay18]
  rw [h.batch r hr, sitofp_bit, sitofp_small _ g.isLt]
  by_cases hq : A.batch (ix2 0 ⟨4096 * (i 0).val + r.val, hr⟩) = ((g.val : ℝ) : EReal)
  · rw [if_pos hq]; exact (if_pos hq).symm
  · rw [if_neg hq]; exact (if_neg hq).symm

/-- A row's exponential counted in graph `g`: zero past the arrays' end, whatever the block holds there. -/
theorem weight_read (r : Fin 4096) (g : Fin 64) (k : Fin 4) (m : EReal) :
    k0_pay18 I.batch (ix2 r g) * Ideal.exp (I.gate i (ix2 r k) - m)
      = extend 0 (pick (A.member g)) (4096 * (i 0).val + r.val)
        * Ideal.exp (extend ⊥ (A.gate k) (4096 * (i 0).val + r.val) - m) := by
  rw [gate_read h]
  by_cases hr : 4096 * (i 0).val + r.val < 50000
  · rw [member_read h r g hr]
  · rw [extend_of_not_lt _ (A.gate k) hr, EReal.bot_sub, exp_bot, mul_zero, mul_zero]

/-- The same with the row's value. -/
theorem term_read (r : Fin 4096) (g : Fin 64) (k : Fin 4) (c : Fin 124) (m : EReal) (v : EReal)
    (hv : v = ∑ x : Fin 256, I.act i (ix2 r ⟨1024 + 256 * k.val + x.val, by have := x.isLt; have := k.isLt; omega⟩) * A.wn (ix3 k x c)) :
    k0_pay18 I.batch (ix2 r g) * Ideal.exp (I.gate i (ix2 r k) - m) * v
      = extend 0 (pick (A.member g)) (4096 * (i 0).val + r.val)
        * Ideal.exp (extend ⊥ (A.gate k) (4096 * (i 0).val + r.val) - m)
        * extend 0 (A.val k c) (4096 * (i 0).val + r.val) := by
  rw [weight_read h]
  by_cases hr : 4096 * (i 0).val + r.val < 50000
  · rw [hv, extend_of_lt _ (A.val k c) hr]
    unfold Arr.val
    exact congrArg _ (Finset.sum_congr rfl fun x _ => congrArg (· * _) (act_read h r hr _))
  · rw [extend_of_not_lt _ (A.gate k) hr, EReal.bot_sub, exp_bot, mul_zero, zero_mul, zero_mul]

/-! ### The step from the closed form -/

theorem stepM_read (k : Fin 4) :
    max ((A.closed (i 0).val).m (ix2 0 k)) (I.masked i (ix1 k)) = A.closedM ((i 0).val + 1) k := by
  rw [masked_read h]
  exact (top_succ _ _).symm

theorem step_m : (St.step i I (A.closed (i 0).val)).m = (A.closed ((i 0).val + 1)).m := by
  funext j
  obtain ⟨a, k, rfl⟩ : ∃ (a : Fin 1) (k : Fin 4), j = ix2 a k := ⟨_, _, eq_ix2 j⟩
  obtain rfl : a = 0 := Subsingleton.elim _ _
  pointwise [St.step, St.stepM, k0_pay16, k0_pay14]
  exact stepM_read h _

theorem step_s : (St.step i I (A.closed (i 0).val)).s = (A.closed ((i 0).val + 1)).s := by
  funext j
  obtain ⟨g, k, rfl⟩ : ∃ (g : Fin 64) (k : Fin 4), j = ix2 g k := ⟨_, _, eq_ix2 j⟩
  pointwise [St.step, St.stepS, k0_pay19, k0_pay17, k0_pay14, k0_pay15]
  rw [stepM_read h]
  rw [Finset.sum_congr rfl fun r _ => weight_read h r g k _]
  show A.closedS (i 0).val g k * Ideal.exp (A.closedM (i 0).val k - A.closedM ((i 0).val + 1) k) + _ = A.closedS ((i 0).val + 1) g k
  unfold Arr.closedS Arr.closedM
  rw [den_succ]

/-- What a pool's new numerator is, from its reading at an index. -/
theorem stepP_read (k : Fin 4) (g : Fin 64) (c : Fin 124) (v : Fin 4096 → EReal)
    (hv : ∀ r, v r = ∑ x : Fin 256, I.act i (ix2 r ⟨1024 + 256 * k.val + x.val, by have := x.isLt; have := k.isLt; omega⟩) * A.wn (ix3 k x c)) :
    A.closedP (i 0).val k g c * Ideal.exp ((A.closed (i 0).val).m (ix2 0 k) - max ((A.closed (i 0).val).m (ix2 0 k)) (I.masked i (ix1 k)))
        + ∑ r : Fin 4096, k0_pay18 I.batch (ix2 r g)
            * Ideal.exp (I.gate i (ix2 r k) - max ((A.closed (i 0).val).m (ix2 0 k)) (I.masked i (ix1 k))) * v r
      = A.closedP ((i 0).val + 1) k g c := by
  rw [stepM_read h]
  rw [Finset.sum_congr rfl fun r _ => term_read h r g k c _ _ (hv r)]
  show A.closedP (i 0).val k g c * Ideal.exp (A.closedM (i 0).val k - A.closedM ((i 0).val + 1) k) + _ = A.closedP ((i 0).val + 1) k g c
  unfold Arr.closedP Arr.closedM
  rw [num_succ]

theorem stepP0_read (g : Fin 64) (c : Fin 124) :
    St.stepP0 i I (A.closed (i 0).val) (ix3 0 g c) = A.closedP ((i 0).val + 1) 0 g c := by
  refine Eq.trans ?_ (stepP_read h 0 g c _ fun r => rfl)
  rw [← h.wn]
  pointwise [St.stepP0, k0_pay23, k0_pay20, k0_pay21, k0_pay22, k0_pay17, k0_pay14, k0_pay15]
  rw [show slab0 (A.closed (i 0).val).p (ix3 0 g c) = A.closedP (i 0).val 0 g c from window_ix3 (n0 := 4) _ 0 _ g c]
  refine congrArg₂ _ rfl (Finset.sum_congr rfl fun r _ => congrArg _ (Finset.sum_congr rfl fun x _ => congrArg _ ?_))
  exact window_ix3 (n0 := 4) _ 0 _ x c

theorem stepP1_read (g : Fin 64) (c : Fin 124) :
    St.stepP1 i I (A.closed (i 0).val) (ix3 0 g c) = A.closedP ((i 0).val + 1) 1 g c := by
  refine Eq.trans ?_ (stepP_read h 1 g c _ fun r => rfl)
  rw [← h.wn]
  pointwise [St.stepP1, k0_pay24, k0_pay17, k0_pay14, k0_pay15]
  rw [show slab1 (A.closed (i 0).val).p (ix3 0 g c) = A.closedP (i 0).val 1 g c from window_ix3 (n0 := 4) _ 1 _ g c]
  refine congrArg₂ _ rfl (Finset.sum_congr rfl fun r _ => congrArg _ (Finset.sum_congr rfl fun x _ => congrArg _ ?_))
  exact window_ix3 (n0 := 4) _ 1 _ x c

theorem stepP2_read (g : Fin 64) (c : Fin 124) :
    St.stepP2 i I (A.closed (i 0).val) (ix3 0 g c) = A.closedP ((i 0).val + 1) 2 g c := by
  refine Eq.trans ?_ (stepP_read h 2 g c _ fun r => rfl)
  rw [← h.wn]
  pointwise [St.stepP2, k0_pay1, k0_pay25, k0_pay26, k0_pay27, k0_pay17, k0_pay14, k0_pay15]
  rw [show slab2 (A.closed (i 0).val).p (ix3 0 g c) = A.closedP (i 0).val 2 g c from window_ix3 (n0 := 4) _ 2 _ g c]
  refine congrArg₂ _ rfl (Finset.sum_congr rfl fun r _ => congrArg _ (Finset.sum_congr rfl fun x _ => congrArg _ ?_))
  exact window_ix3 (n0 := 4) _ 2 _ x c

theorem stepP3_read (g : Fin 64) (c : Fin 124) :
    St.stepP3 i I (A.closed (i 0).val) (ix3 0 g c) = A.closedP ((i 0).val + 1) 3 g c := by
  refine Eq.trans ?_ (stepP_read h 3 g c _ fun r => rfl)
  rw [← h.wn]
  pointwise [St.stepP3, k0_pay2, k0_pay17, k0_pay14, k0_pay15]
  rw [show slab3 (A.closed (i 0).val).p (ix3 0 g c) = A.closedP (i 0).val 3 g c from window_ix3 (n0 := 4) _ 3 _ g c]
  refine congrArg₂ _ rfl (Finset.sum_congr rfl fun r _ => congrArg _ (Finset.sum_congr rfl fun x _ => congrArg _ ?_))
  exact window_ix3 (n0 := 4) _ 3 _ x c

theorem step_p : (St.step i I (A.closed (i 0).val)).p = (A.closed ((i 0).val + 1)).p := by
  apply ext_slabs
  · exact (slab0_stack _ _ _ _ _).trans (ext_slab fun g c => (stepP0_read h g c).trans (window_ix3 (n0 := 4) (A.closed ((i 0).val + 1)).p 0 _ g c).symm)
  · exact (slab1_stack _ _ _ _ _).trans (ext_slab fun g c => (stepP1_read h g c).trans (window_ix3 (n0 := 4) (A.closed ((i 0).val + 1)).p 1 _ g c).symm)
  · exact (slab2_stack _ _ _ _ _).trans (ext_slab fun g c => (stepP2_read h g c).trans (window_ix3 (n0 := 4) (A.closed ((i 0).val + 1)).p 2 _ g c).symm)
  · exact (slab3_stack _ _ _ _ _).trans (ext_slab fun g c => (stepP3_read h g c).trans (window_ix3 (n0 := 4) (A.closed ((i 0).val + 1)).p 3 _ g c).symm)

/-- One call of the body takes the closed form at the point to the closed form at the next. -/
theorem step_closed : St.step i I (A.closed (i 0).val) = A.closed ((i 0).val + 1) := by
  have e : ∀ S T : St Ideal, S.m = T.m → S.s = T.s → S.p = T.p → S = T := by
    rintro ⟨_, _, _⟩ ⟨_, _, _⟩ rfl rfl rfl; rfl
  exact e _ _ (step_m h) (step_s h) (step_p h)

end Read

section Ends

variable (A : Arr)

/-- The state the first point resets to is the closed form of no rows. -/
theorem init_closed : (St.init : St Ideal) = A.closed 0 := by
  have e : ∀ S T : St Ideal, S.m = T.m → S.s = T.s → S.p = T.p → S = T := by
    rintro ⟨_, _, _⟩ ⟨_, _, _⟩ rfl rfl rfl; rfl
  refine e _ _ (funext fun j => ?_) (funext fun j => ?_) (funext fun j => ?_)
  · show (k0_pay7 (F := Ideal) j : EReal) = A.closedM 0 (j 1)
    unfold Arr.closedM
    rw [top_zero]
    pointwise [k0_pay7]
    exact mask_eq
  · show (k0_pay8 (F := Ideal) j : EReal) = A.closedS 0 (j 0) (j 1)
    unfold Arr.closedS
    rw [den_zero]
    pointwise [k0_pay8]
  · show (k0_pay9 (F := Ideal) j : EReal) = A.closedP 0 (j 0) (j 1) (j 2)
    unfold Arr.closedP
    rw [num_zero]
    pointwise [k0_pay9]

/-- The small number added to a denominator. -/
def eps : EReal := Ideal.ofBits FTy.f32 619091349#32

/-- The result of pool `k`: the weighted mean of graph `g`. -/
def Arr.pooled (k : Fin 4) (g : Fin 64) (c : Fin 124) : EReal :=
  Ideal.div (A.closedP 13 k g c + A.closedS 13 g k * A.bn (ix3 k 0 c)) (A.closedS 13 g k + eps)

/-- The block the last point stores. -/
def Arr.result : Vec Ideal S4x64x124 .f32 := fun j => A.pooled (j 0) (j 1) (j 2)

theorem out0_read (I : In Ideal) (hb : I.bn = A.bn) (g : Fin 64) (c : Fin 124) :
    k0_pay5 (A.closed 13).s (slab0 (A.closed 13).p) I.bn0 (ix3 0 g c) = A.pooled 0 g c := by
  unfold Arr.pooled eps
  pointwise [k0_pay5]
  rw [show slab0 (A.closed 13).p (ix3 0 g c) = A.closedP 13 0 g c from window_ix3 (n0 := 4) _ 0 _ g c,
    show I.bn0 (ix3 0 0 c) = A.bn (ix3 0 0 c) from hb ▸ window_ix3 (n0 := 4) _ 0 _ 0 c]
  rfl

theorem out1_read (I : In Ideal) (hb : I.bn = A.bn) (g : Fin 64) (c : Fin 124) :
    k0_pay6 (A.closed 13).s (slab1 (A.closed 13).p) I.bn1 (ix3 0 g c) = A.pooled 1 g c := by
  unfold Arr.pooled eps
  pointwise [k0_pay6]
  rw [show slab1 (A.closed 13).p (ix3 0 g c) = A.closedP 13 1 g c from window_ix3 (n0 := 4) _ 1 _ g c,
    show I.bn1 (ix3 0 0 c) = A.bn (ix3 1 0 c) from hb ▸ window_ix3 (n0 := 4) _ 1 _ 0 c]
  rfl

theorem out2_read (I : In Ideal) (hb : I.bn = A.bn) (g : Fin 64) (c : Fin 124) :
    k0_pay3 (A.closed 13).s (slab2 (A.closed 13).p) I.bn2 (ix3 0 g c) = A.pooled 2 g c := by
  unfold Arr.pooled eps
  pointwise [k0_pay3]
  rw [show slab2 (A.closed 13).p (ix3 0 g c) = A.closedP 13 2 g c from window_ix3 (n0 := 4) _ 2 _ g c,
    show I.bn2 (ix3 0 0 c) = A.bn (ix3 2 0 c) from hb ▸ window_ix3 (n0 := 4) _ 2 _ 0 c]
  rfl

theorem out3_read (I : In Ideal) (hb : I.bn = A.bn) (g : Fin 64) (c : Fin 124) :
    k0_pay4 (A.closed 13).s (slab3 (A.closed 13).p) I.bn3 (ix3 0 g c) = A.pooled 3 g c := by
  unfold Arr.pooled eps
  pointwise [k0_pay4]
  rw [show slab3 (A.closed 13).p (ix3 0 g c) = A.closedP 13 3 g c from window_ix3 (n0 := 4) _ 3 _ g c,
    show I.bn3 (ix3 0 0 c) = A.bn (ix3 3 0 c) from hb ▸ window_ix3 (n0 := 4) _ 3 _ 0 c]
  rfl

/-- What the last point stores, from the closed form of all blocks. -/
theorem out_closed (I : In Ideal) (hb : I.bn = A.bn) (Z : Vec Ideal S4x64x124 .f32) : St.out I (A.closed 13) Z = A.result := by
  unfold St.out
  apply ext_slabs
  · exact (slab0_stack _ _ _ _ _).trans (ext_slab fun g c => (out0_read A I hb g c).trans (window_ix3 (n0 := 4) A.result 0 _ g c).symm)
  · exact (slab1_stack _ _ _ _ _).trans (ext_slab fun g c => (out1_read A I hb g c).trans (window_ix3 (n0 := 4) A.result 1 _ g c).symm)
  · exact (slab2_stack _ _ _ _ _).trans (ext_slab fun g c => (out2_read A I hb g c).trans (window_ix3 (n0 := 4) A.result 2 _ g c).symm)
  · exact (slab3_stack _ _ _ _ _).trans (ext_slab fun g c => (out3_read A I hb g c).trans (window_ix3 (n0 := 4) A.result 3 _ g c).symm)

end Ends

end Cert.IdealRun

end
-- ==== Proof.IdealBlocks.lean ====
/-
  The arrays the launch reads and the blocks a point of the grid is given: on the rows that exist the blocks are the arrays'
  own rows, whatever fills them up past the arrays' end.
-/
module

public import proofs.«01_k».proof.Proof.IdealRead
public import Idealize.ShloMosaic.Lib.Pipeline.ValueKit

@[expose] public section

set_option maxRecDepth 16384

noncomputable section

namespace Cert.IdealRun

open Cert.KernelIdeal Cert.KernelIdeal.Gen
open Idealize.ShloMosaic Idealize.ShloMosaic.TcCoe
open Idealize.ShloMosaic.Pipeline (Dat Cfg Window)

/-- The arrays of the launch, among all the buffers' contents. -/
def arrOf (c : Dev nD) (W : (b : Ref sig .tc) → Buf (Elt Ideal) ((c : Thread nD τ).loc b)) : Arr where
  x := W main_arg0
  batch := W main_v1
  w1 := W main_v7
  b1 := W main_v10
  w2 := W main_v29
  b2 := W main_v30
  wn := W main_v32
  bn := W main_v31

/-- The blocks of point `t`, the overhanging ones filled up with `d0` and `d1`. -/
def blocksOf (c : Dev nD) (W : (b : Ref sig .tc) → Buf (Elt Ideal) ((c : Thread nD τ).loc b)) (t : Fin cfg0.N)
    (d0 : Vec Ideal S4096x128 .f32) (d1 : Vec Ideal S1x4096 .f32) : In Ideal where
  x := win0_0.fill (grid0.coords t) d0 (((cfg0.win 0).blk t).view.read (Elt Ideal) (W (Pipeline.arrRef spec0 0)))
  batch := win0_1.fill (grid0.coords t) d1 (((cfg0.win 1).blk t).view.read (Elt Ideal) (W (Pipeline.arrRef spec0 1)))
  w1 := ((cfg0.win 2).blk t).view.read (Elt Ideal) (W (Pipeline.arrRef spec0 2))
  b1 := ((cfg0.win 3).blk t).view.read (Elt Ideal) (W (Pipeline.arrRef spec0 3))
  w2 := ((cfg0.win 4).blk t).view.read (Elt Ideal) (W (Pipeline.arrRef spec0 4))
  b2 := ((cfg0.win 5).blk t).view.read (Elt Ideal) (W (Pipeline.arrRef spec0 5))
  wn := ((cfg0.win 6).blk t).view.read (Elt Ideal) (W (Pipeline.arrRef spec0 6))
  bn := ((cfg0.win 7).blk t).view.read (Elt Ideal) (W (Pipeline.arrRef spec0 7))

/-! Where each window stands at point `t`: the row windows at the `t`-th block, the others at their whole array. -/

theorem idx_0 : ∀ t : Fin cfg0.N, win0_0.index t = ![t.val, 0] :=
  (by decide +kernel : ∀ t : Fin grid0.N, win0_0.index t = ![t.val, 0])
theorem idx_1 : ∀ t : Fin cfg0.N, win0_1.index t = ![0, t.val] :=
  (by decide +kernel : ∀ t : Fin grid0.N, win0_1.index t = ![0, t.val])
theorem idx_2 : ∀ t : Fin cfg0.N, win0_2.index t = ![0, 0] :=
  (by decide +kernel : ∀ t : Fin grid0.N, win0_2.index t = ![0, 0])
theorem idx_3 : ∀ t : Fin cfg0.N, win0_3.index t = ![0, 0] :=
  (by decide +kernel : ∀ t : Fin grid0.N, win0_3.index t = ![0, 0])
theorem idx_4 : ∀ t : Fin cfg0.N, win0_4.index t = ![0, 0] :=
  (by decide +kernel : ∀ t : Fin grid0.N, win0_4.index t = ![0, 0])
theorem idx_5 : ∀ t : Fin cfg0.N, win0_5.index t = ![0, 0] :=
  (by decide +kernel : ∀ t : Fin grid0.N, win0_5.index t = ![0, 0])
theorem idx_6 : ∀ t : Fin cfg0.N, win0_6.index t = ![0, 0, 0] :=
  (by decide +kernel : ∀ t : Fin grid0.N, win0_6.index t = ![0, 0, 0])
theorem idx_7 : ∀ t : Fin cfg0.N, win0_7.index t = ![0, 0, 0] :=
  (by decide +kernel : ∀ t : Fin grid0.N, win0_7.index t = ![0, 0, 0])
theorem coord : ∀ t : Fin cfg0.N, (grid0.coords t 0).val = t.val :=
  (by decide +kernel : ∀ t : Fin grid0.N, (grid0.coords t 0).val = t.val)

/-! How much of the overhanging blocks exists. -/

theorem rows_0 : ∀ t : Fin grid0.N, win0_0.xsize (grid0.coords t) 0 = min 4096 (50000 - 4096 * t.val) := by decide +kernel
theorem cols_0 : ∀ t : Fin grid0.N, win0_0.xsize (grid0.coords t) 1 = 128 := by decide +kernel
theorem rows_1 : ∀ t : Fin grid0.N, win0_1.xsize (grid0.coords t) 0 = 1 := by decide +kernel
theorem cols_1 : ∀ t : Fin grid0.N, win0_1.xsize (grid0.coords t) 1 = min 4096 (50000 - 4096 * t.val) := by decide +kernel

/-! A window that covers its array reads the array, whatever it holds. -/

theorem whole_2 (c : Dev nD) (t : Fin cfg0.N) (X : Buf (Elt Ideal) ((c : Thread nD τ).loc (Pipeline.arrRef spec0 2))) :
    ((cfg0.win 2).blk t).view.read (Elt Ideal) X = X := by blk_ext! [idx_2 t]
theorem whole_3 (c : Dev nD) (t : Fin cfg0.N) (X : Buf (Elt Ideal) ((c : Thread nD τ).loc (Pipeline.arrRef spec0 3))) :
    ((cfg0.win 3).blk t).view.read (Elt Ideal) X = X := by blk_ext! [idx_3 t]
theorem whole_4 (c : Dev nD) (t : Fin cfg0.N) (X : Buf (Elt Ideal) ((c : Thread nD τ).loc (Pipeline.arrRef spec0 4))) :
    ((cfg0.win 4).blk t).view.read (Elt Ideal) X = X := by blk_ext! [idx_4 t]
theorem whole_5 (c : Dev nD) (t : Fin cfg0.N) (X : Buf (Elt Ideal) ((c : Thread nD τ).loc (Pipeline.arrRef spec0 5))) :
    ((cfg0.win 5).blk t).view.read (Elt Ideal) X = X := by blk_ext! [idx_5 t]
theorem whole_6 (c : Dev nD) (t : Fin cfg0.N) (X : Buf (Elt Ideal) ((c : Thread nD τ).loc (Pipeline.arrRef spec0 6))) :
    ((cfg0.win 6).blk t).view.read (Elt Ideal) X = X := by blk_ext! [idx_6 t]
theorem whole_7 (c : Dev nD) (t : Fin cfg0.N) (X : Buf (Elt Ideal) ((c : Thread nD τ).loc (Pipeline.arrRef spec0 7))) :
    ((cfg0.win 7).blk t).view.read (Elt Ideal) X = X := by blk_ext! [idx_7 t]

/-- A row of the features' block, at the array's row. -/
theorem row_0 (c : Dev nD) (t : Fin cfg0.N) (X : Buf (Elt Ideal) ((c : Thread nD τ).loc (Pipeline.arrRef spec0 0))) (d0 : Vec Ideal S4096x128 .f32)
    (r : Fin 4096) (hr : 4096 * t.val + r.val < 50000) (d : Fin 128) :
    win0_0.fill (grid0.coords t) d0 (((cfg0.win 0).blk t).view.read (Elt Ideal) X) (ix2 r d) = X (ix2 ⟨4096 * t.val + r.val, hr⟩ d) := by
  have h : ∀ a, ((ix2 r d : S4096x128.Idx) a).val < win0_0.xsize (grid0.coords t) a := fun a => by
    match a with
    | ⟨0, _⟩ => show r.val < win0_0.xsize (grid0.coords t) 0; rw [rows_0]; have := r.isLt; omega
    | ⟨1, _⟩ => show d.val < win0_0.xsize (grid0.coords t) 1; rw [cols_0]; exact d.isLt
  refine (win0_0.fill_xinj (grid0.coords t) d0 _ (fun a => ⟨((ix2 r d : S4096x128.Idx) a).val, h a⟩)).trans ?_
  blk_ext [idx_0 t]

/-- A graph number of the block, at the array's place. -/
theorem row_1 (c : Dev nD) (t : Fin cfg0.N) (X : Buf (Elt Ideal) ((c : Thread nD τ).loc (Pipeline.arrRef spec0 1))) (d1 : Vec Ideal S1x4096 .f32)
    (r : Fin 4096) (hr : 4096 * t.val + r.val < 50000) :
    win0_1.fill (grid0.coords t) d1 (((cfg0.win 1).blk t).view.read (Elt Ideal) X) (ix2 0 r) = X (ix2 0 ⟨4096 * t.val + r.val, hr⟩) := by
  have h : ∀ a, ((ix2 (0 : Fin 1) r : S1x4096.Idx) a).val < win0_1.xsize (grid0.coords t) a := fun a => by
    match a with
    | ⟨0, _⟩ => show (0 : Fin 1).val < win0_1.xsize (grid0.coords t) 0; rw [rows_1]; exact Nat.one_pos
    | ⟨1, _⟩ => show r.val < win0_1.xsize (grid0.coords t) 1; rw [cols_1]; have := r.isLt; omega
  refine (win0_1.fill_xinj (grid0.coords t) d1 _ (fun a => ⟨((ix2 (0 : Fin 1) r : S1x4096.Idx) a).val, h a⟩)).trans ?_
  blk_ext [idx_1 t]

/-- The blocks agree with the arrays on the rows that exist. -/
theorem agrees (c : Dev nD) (W) (t : Fin cfg0.N) (d0 d1) : Agrees (arrOf c W) t.val (blocksOf c W t d0 d1) where
  x r hr d := row_0 c t (W main_arg0) d0 r hr d
  batch r hr := row_1 c t (W main_v1) d1 r hr
  w1 := whole_2 c t (W main_v7)
  b1 := whole_3 c t (W main_v10)
  w2 := whole_4 c t (W main_v29)
  b2 := whole_5 c t (W main_v30)
  wn := whole_6 c t (W main_v32)
  bn := whole_7 c t (W main_v31)

end Cert.IdealRun

end
-- ==== Proof.IdealSound.lean ====
/-
  The idealized kernel's run: every execution ends with the pooled result in the region's result array.

  The two row windows overhang their arrays at the last point; of their buffers only the rows inside the arrays are named.
  The scratch buffers hold the closed form of the blocks seen so far, which does not depend on the words past the arrays'
  end; the result's buffer is written at the last point only.
-/
module

public import proofs.«01_k».proof.Proof.IdealCall
public import proofs.«01_k».proof.Proof.IdealBlocks

@[expose] public section

set_option maxRecDepth 16384

noncomputable section

namespace Cert.IdealRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-- The arrays the launch reads, as the region finds them. -/
def arr (c : Dev nD) : Arr := arrOf c (V m c)

/-- What the scratch buffers hold before point `n`: anything before the first, then the closed form. -/
def scratch (c : Dev nD) : ℕ → sProp 𝕄
  | 0 => Pipeline.ΦA spec0 c
  | n + 1 => iprop(iprop(owns (c : Thread nD τ) (Memref.whole cc0_scratch0) fullShare ((arr m c).closed (n + 1)).m
        ∗ owns (c : Thread nD τ) (Memref.whole cc0_scratch1) fullShare ((arr m c).closed (n + 1)).s
        ∗ owns (c : Thread nD τ) (Memref.whole cc0_scratch2) fullShare ((arr m c).closed (n + 1)).p)
      ∗ (∃ r, prngReg c r))

theorem scratch_eq (c : Dev nD) :
    (Pipeline.ΦA spec0 c : sProp 𝕄)
      = iprop(iprop(some_ c (Memref.whole cc0_scratch0) ∗ some_ c (Memref.whole cc0_scratch1) ∗ some_ c (Memref.whole cc0_scratch2))
          ∗ (∃ r, prngReg c r)) := by
  unfold Pipeline.ΦA; rw [scopedRest0_eq]; simp only [some_, owns_whole]; try rfl

/-- The scratch buffers at some state, from which point `t` starts at the closed form. -/
def opened (c : Dev nD) (t : Fin cfg0.N) : sProp 𝕄 :=
  iprop(∃ S : St Ideal, ⌜start t S = (arr m c).closed t.val⌝
    ∗ owns (c : Thread nD τ) (Memref.whole cc0_scratch0) fullShare S.m
    ∗ owns (c : Thread nD τ) (Memref.whole cc0_scratch1) fullShare S.s
    ∗ owns (c : Thread nD τ) (Memref.whole cc0_scratch2) fullShare S.p ∗ (∃ r, prngReg c r))

/-- Before any point the scratch buffers hold some state, from which the point starts at the closed form. -/
theorem scratch_open (c : Dev nD) (t : Fin cfg0.N) :
    scratch m c t.val ⊢ opened m c t := by
  unfold opened start
  rcases t with ⟨_ | n, hn⟩
  · show Pipeline.ΦA spec0 c ⊢ _
    rw [scratch_eq]
    iintro ⟨⟨⟨%y0, H0⟩, ⟨%y1, H1⟩, ⟨%y2, H2⟩⟩, Hg⟩
    iexists (⟨y0, y1, y2⟩ : St Ideal)
    isplitr
    · ipureintro; exact (if_pos rfl).trans (init_closed _)
    isplitl [H0]; · iexact H0
    isplitl [H1]; · iexact H1
    isplitl [H2]; · iexact H2
    iexact Hg
  · unfold scratch
    iintro ⟨⟨H0, H1, H2⟩, Hg⟩
    iexists ((arr m c).closed (n + 1))
    isplitr
    · ipureintro; exact if_neg (Nat.succ_ne_zero n)
    isplitl [H0]; · iexact H0
    isplitl [H1]; · iexact H1
    isplitl [H2]; · iexact H2
    iexact Hg

/-- The proof data: as in the file's header. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0 : EReal)) (iblk m c 1 t)
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (arr m c).result
  Φ t := scratch m c t.val
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) :
    (dats m 0 c).before 1 t d = win0_1.fill (grid0.coords t) d (iblk m c 1 t) := by
  unfold Dat.before; rw [if_pos (fetch0_1 t)]; rfl
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d
theorem before_5 (c : Dev nD) (t : Fin cfg0.N) (d) : (dats m 0 c).before 5 t d = iblk m c 5 t :=
  before0_5_of m (dats m 0 c) (A_eq m c 5) (fun t => by dsimp only [dats]) t d
theorem before_6 (c : Dev nD) (t : Fin cfg0.N) (d) : (dats m 0 c).before 6 t d = iblk m c 6 t :=
  before0_6_of m (dats m 0 c) (A_eq m c 6) (fun t => by dsimp only [dats]) t d
theorem before_7 (c : Dev nD) (t : Fin cfg0.N) (d) : (dats m 0 c).before 7 t d = iblk m c 7 t :=
  before0_7_of m (dats m 0 c) (A_eq m c 7) (fun t => by dsimp only [dats]) t d

theorem row (t : Fin cfg0.N) : defs₀ (F := Ideal) .tc cfg0.body (cfg0.bodyArgs t (cfg0.slots t)) = bodyAt0 t := by
  unfold defs₀; rw [Defs.onTc_tc]

/-- What the body is called with at point `t`, buffer by buffer, `P` of the scratch buffers. -/
def before (c : Dev nD) (t : Fin cfg0.N) (P : sProp 𝕄) : sProp 𝕄 :=
  iprop(P ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- What it hands back, `H8` of the result's buffer. -/
def after (c : Dev nD) (t : Fin cfg0.N) (H8 : sProp 𝕄) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ (∃ d, owns (c : Thread nD τ) (st0_1 t) fullShare
        (win0_1.fill (grid0.coords t) d (win0_1.cut (grid0.coords t) ((dats m 0 c).after 1 t))))
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ H8)

set_option maxHeartbeats 4000000 in
/-- The body at point `t`, for any reading of the result's buffer that what the call stores meets. -/
theorem sound (c : Dev nD) (t : Fin cfg0.N) (H8 : sProp 𝕄)
    (h8 : ∀ (I : In Ideal) (d), Agrees (arr m c) (grid0.coords t 0).val I →
      owns (c : Thread nD τ) (st0_8 t) fullShare (stored t I ((arr m c).closed (t.val + 1)) ((dats m 0 c).before 8 t d)) ⊢ H8) :
    before m c t (scratch m c t.val) ⊢ wp frame (wpE (defs₀ (F := Ideal)) Variants.none c none) Set.univ (bodyAt0 t) (fun _ => after m c t H8) := by
  refine BIBase.Entails.trans (show before m c t (scratch m c t.val) ⊢ before m c t (opened m c t) from sep_mono_l (scratch_open m c t)) ?_
  unfold before after opened
  rw [show (dats m 0 c).Φ t.succ = scratch m c (t.val + 1) from rfl,
    show (dats m 0 c).owesAt () t.succ = (dats m 0 c).owesAt () t.castSucc from rfl]
  iintro ⟨⟨%S, %hS, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before_0 m c t d0, before_1 m c t d1, before_2, before_3, before_4, before_5, before_6, before_7]
  have hA : Agrees (arr m c) (grid0.coords t 0).val (blocksOf c (V m c) t d0 d1) := by
    rw [coord_eq]; exact agrees c (V m c) t d0 d1
  have hstep : St.step (grid0.coords t) (blocksOf c (V m c) t d0 d1) (start t S) = (arr m c).closed (t.val + 1) := by
    have e := step_closed hA
    rw [coord_eq] at e
    rw [hS]; exact e
  iapply (call (F := Ideal) c t (blocksOf c (V m c) t d0 d1) S ((dats m 0 c).before 8 t d8) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  rw [hstep]
  iintro ⟨H0, H1, H2, H3, H4, H5, H6, H7, H8, HS0, HS1, HS2⟩
  isplitl [HS0 HS1 HS2 Hg]
  · unfold scratch
    isplitl [HS0 HS1 HS2]
    · isplitl [HS0]; · iexact HS0
      isplitl [HS1]; · iexact HS1
      iexact HS2
    iexact Hg
  isplitl [Ho]; · iexact Ho
  have e0 : win0_0.cut (grid0.coords t) ((dats m 0 c).after 0 t) = iblk m c 0 t := win0_0.cut_fill _ _ _
  have e1 : win0_1.cut (grid0.coords t) ((dats m 0 c).after 1 t) = iblk m c 1 t := win0_1.cut_fill _ _ _
  isplitl [H0]
  · iexists d0
    rw [e0]; iexact H0
  isplitl [H1]
  · iexists d1
    rw [e1]; iexact H1
  isplitl [H2]; · iexact H2
  isplitl [H3]; · iexact H3
  isplitl [H4]; · iexact H4
  isplitl [H5]; · iexact H5
  isplitl [H6]; · iexact H6
  isplitl [H7]; · iexact H7
  iapply (h8 (blocksOf c (V m c) t d0 d1) d8 hA)
  iexact H8

end Cert.IdealRun

end
-- ==== Proof.IdealRun.lean ====
/-
  The idealized kernel's run: every execution ends with the pooled result in the region's result array.

  The two row windows overhang their arrays at the last point; of their buffers only the rows inside the arrays are named.
  The scratch buffers hold the closed form of the blocks seen so far, which does not depend on the words past the arrays'
  end; the result's buffer is written at the last point only.
-/
module

public import proofs.«01_k».proof.Proof.IdealSound

@[expose] public section

set_option maxRecDepth 16384

noncomputable section

namespace Cert.IdealRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

theorem idle_last (t : Fin cfg0.N) (h : t.val = 12) : cfg0.idle 8 (cfg0.grid.coords t) = false := by
  show (!(k0_cond2 (grid0.coords t) == 1#1)) = false
  rw [(last_iff t).mpr h]; rfl
theorem idle_else (t : Fin cfg0.N) (h : ¬t.val = 12) : cfg0.idle 8 (cfg0.grid.coords t) = true := by
  show (!(k0_cond2 (grid0.coords t) == 1#1)) = true
  have := mt (last_iff t).mp h
  unfold last at this
  simp [this]
theorem flush_else (t : Fin cfg0.N) (h : ¬t.val = 12) : (cfg0.win 8).flush t = false := by
  have ht : t.val < 13 := Nat.lt_of_lt_of_eq t.isLt N_0
  rw [Bool.eq_false_iff]
  exact fun e => by have := (flush0_8 t).mp e; omega

theorem after_8 (c : Dev nD) (t : Fin cfg0.N) : (dats m 0 c).after 8 t = (arr m c).result := by dsimp only [dats]

attribute [local irreducible] Arr.result Arr.closed St.step in
set_option maxHeartbeats 4000000 in
/-- The body meets the pipeline's obligation at every point. -/
theorem obligation (c : Dev nD) :
    BodyObligationLoose (dats m 0 c) (defs₀ (F := Ideal)) Variants.none () Set.univ := fun t => by
  rw [bigSep_W0, bigSep_W0, row]
  by_cases h : t.val = 12
  · rw [idle_last t h]
    refine triple_restated (sound m c t (owns (c : Thread nD τ) (st0_8 t) fullShare ((dats m 0 c).after 8 t)) fun I d hI => ?_) rfl .rfl fun _ => .rfl
    unfold stored
    rw [if_pos h, h, out_closed _ I hI.bn, after_8]
  · rw [idle_else t h, flush_else t h]
    refine triple_restated (sound m c t (iprop(∃ d, owns (c : Thread nD τ) (st0_8 t) fullShare ((dats m 0 c).before 8 t d))) fun I d hI => ?_) rfl .rfl fun _ => .rfl
    unfold stored
    rw [if_neg h]
    iintro H
    iexists d
    iexact H

end Cert.IdealRun

end
-- ==== Proof.IdealEnd.lean ====
/-
  The idealized kernel's program from start to end: it ends, the arguments as they were and every counter at zero, with the
  pooled result in the region's result array and, after the host lines behind the region, in the program's result.
-/
module

public import proofs.«01_k».proof.Proof.IdealRun
public import Idealize.ShloMosaic.Lib.Pipeline.FrameSuffix

@[expose] public section

set_option maxRecDepth 16384

noncomputable section

namespace Cert.IdealRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-- The scratch buffers start at anything. -/
theorem enter (c : Dev nD) : Pipeline.ΦA spec0 c ⊢ (dats m 0 c).Φ 0 := by
  rw [show (dats m 0 c).Φ 0 = scratch m c 0 from rfl]; exact .rfl

/-- What they hold at the end is forgotten. -/
theorem leave (c : Dev nD) : (dats m 0 c).Φ (Fin.last cfg0.N) ⊢ Pipeline.ΦA spec0 c := by
  rw [show (dats m 0 c).Φ (Fin.last cfg0.N) = scratch m c 13 from rfl, scratch_eq]
  unfold scratch some_
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

-- the launch theorem's implicit arguments are found by unifying its conclusion, which unfolds plain definitions
set_option backward.isDefEq.respectTransparency.types false in
set_option maxHeartbeats 800000 in
/-- The run: every execution ends, every array as computed and the counters at zero. -/
theorem run : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := enter m) (hout := leave m) (hQ' := fun _ h => h)

/-- The last point writes the whole result array. -/
theorem final (c : Dev nD) : (dats m 0 c).arrAt 8 (cfgs 0).N = (arr m c).result := by
  refine (dats m 0 c).arrAt_eq_of_after_last 8 t0_12 (by decide +kernel) _ fun j => ?_
  blk_simp
  rw [after_8]
  blk_ext

/-- What the program's result buffer holds at the end, as the host lines behind the region leave it. -/
def outcome (c : Dev nD) : Buf (Elt Ideal) ((c.tc : Thread nD τ).loc main_v36) :=
  Pipeline.afterTail₀ cfgs (dats m) 0 (V0 m) [hostOps1] c main_v36

/-- Every execution ends, with the outcome in the result buffer, the arguments as they were and every counter at zero. -/
theorem ends : θ_run defs (onTc (τ := τ) (main (F := Ideal))) ⟨m, fun _ => 0, ρ⟩ (fun r => (∀ c : Dev nD,
      r.2.mem ((c.tc : Thread nD τ).loc main_v36) = outcome m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun _ h => ⟨fun c => ⟨(h.1 c).2 main_v36 (Pipeline.mem_restRefs_of main_v36 (by decide) (by decide)),
      ((h.1 c).1 0).trans (((dats m 0 c).arrAt_in 0 rfl _).trans ((A_eq m c 0).trans (V_main_arg0 m c))),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c),
      ((h.1 c).2 main_arg5 (Pipeline.mem_restRefs_of main_arg5 (by decide) (by decide))).trans (W_main_arg5 m (dats m) c),
      ((h.1 c).2 main_arg6 (Pipeline.mem_restRefs_of main_arg6 (by decide) (by decide))).trans (W_main_arg6 m (dats m) c),
      ((h.1 c).2 main_arg7 (Pipeline.mem_restRefs_of main_arg7 (by decide) (by decide))).trans (W_main_arg7 m (dats m) c),
      ((h.1 c).2 main_arg8 (Pipeline.mem_restRefs_of main_arg8 (by decide) (by decide))).trans (W_main_arg8 m (dats m) c),
      ((h.1 c).2 main_arg9 (Pipeline.mem_restRefs_of main_arg9 (by decide) (by decide))).trans (W_main_arg9 m (dats m) c),
      ((h.1 c).2 main_arg10 (Pipeline.mem_restRefs_of main_arg10 (by decide) (by decide))).trans (W_main_arg10 m (dats m) c),
      ((h.1 c).2 main_arg11 (Pipeline.mem_restRefs_of main_arg11 (by decide) (by decide))).trans (W_main_arg11 m (dats m) c),
      ((h.1 c).2 main_arg12 (Pipeline.mem_restRefs_of main_arg12 (by decide) (by decide))).trans (W_main_arg12 m (dats m) c),
      ((h.1 c).2 main_arg13 (Pipeline.mem_restRefs_of main_arg13 (by decide) (by decide))).trans (W_main_arg13 m (dats m) c),
      ((h.1 c).2 main_arg14 (Pipeline.mem_restRefs_of main_arg14 (by decide) (by decide))).trans (W_main_arg14 m (dats m) c),
      ((h.1 c).2 main_arg15 (Pipeline.mem_restRefs_of main_arg15 (by decide) (by decide))).trans (W_main_arg15 m (dats m) c),
      ((h.1 c).2 main_arg16 (Pipeline.mem_restRefs_of main_arg16 (by decide) (by decide))).trans (W_main_arg16 m (dats m) c),
      ((h.1 c).2 main_arg17 (Pipeline.mem_restRefs_of main_arg17 (by decide) (by decide))).trans (W_main_arg17 m (dats m) c)⟩, h.2⟩) (run m ρ)

end Cert.IdealRun

end
-- ==== Proof.IdealHost.lean ====
/-
  What the host lines before the launch make of the arguments, element by element.
-/
module

public import proofs.«01_k».proof.Proof.Gen.KernelIdeal.Frame
public import Idealize.ShloMosaic.Lib.Pointwise
public import Idealize.ShloMosaic.Lib.StableHlo.ReadAt
public import Idealize.ShloMosaic.Lib.Claim
public import Idealize.ShloMosaic.Lib.Routing.OpsPair
public import Idealize.ShloMosaic.Lib.Routing.OpsSet

@[expose] public section

set_option maxRecDepth 16384

noncomputable section

namespace Cert.IdealRun

open Cert.KernelIdeal Cert.KernelIdeal.Gen
open Idealize.ShloMosaic Idealize.ShloMosaic.TcCoe

variable (m : (ℓ : Loc nD τ sig) → Buf (Elt Ideal) ℓ) (c : Dev nD)

/-- The graph numbers, as reals. -/
theorem host_batch (row : Fin 50000) : (V m c main_v1 : Vec Ideal S1x50000 .f32) (ix2 0 row)
    = ((((m ((c : Thread nD τ).loc main_arg2) : IVec S50000 32) (ix1 row)).toInt : ℝ) : EReal) := by
  unfold V V0
  simp only [List.flatten_cons, List.flatten_nil, List.append_nil]
  after_reads_at
  rfl

/-- The gates' output biases. -/
theorem host_b2 (k : Fin 4) : (V m c main_v30 : Vec Ideal S1x4 .f32) (ix2 0 k)
    = (m ((c : Thread nD τ).loc main_arg13) : Vec Ideal S4x1 .f32) (ix2 k 0) := by
  unfold V V0
  simp only [List.flatten_cons, List.flatten_nil, List.append_nil]
  after_reads_at

/-- The values' output biases. -/
theorem host_bn (k : Fin 4) (d : Fin 124) : (V m c main_v31 : Vec Ideal S4x1x124 .f32) (ix3 k 0 d)
    = (m ((c : Thread nD τ).loc main_arg17) : Vec Ideal S4x124 .f32) (ix2 k d) := by
  unfold V V0
  simp only [List.flatten_cons, List.flatten_nil, List.append_nil]
  after_reads_at

/-- The values' output weights. -/
theorem host_wn (k : Fin 4) (j : Fin 256) (d : Fin 124) : (V m c main_v32 : Vec Ideal S4x256x124 .bf16) (ix3 k j d)
    = (m ((c : Thread nD τ).loc main_arg16) : Vec Ideal S4x256x124 .f32) (ix3 k j d) := by
  unfold V V0
  simp only [List.flatten_cons, List.flatten_nil, List.append_nil]
  after_reads_at

/-- The first layers' weights: the gates' in the first 1024 columns, pool by pool, then the values'. -/
theorem host_w1 (d : Fin 128) (J : Fin 2048) : (V m c main_v7 : Vec Ideal S128x2048 .bf16) (ix2 d J)
    = if h : J.val < 1024 then
        (m ((c : Thread nD τ).loc main_arg10) : Vec Ideal S4x128x256 .f32) (ix3 ⟨J.val / 256, by omega⟩ d ⟨J.val % 256, by omega⟩)
      else (m ((c : Thread nD τ).loc main_arg14) : Vec Ideal S4x128x256 .f32)
        (ix3 ⟨(J.val - 1024) / 256, by omega⟩ d ⟨(J.val - 1024) % 256, by omega⟩) := by
  unfold V V0
  simp only [List.flatten_cons, List.flatten_nil, List.append_nil]
  after_reads_at
  by_cases h : J.val < 1024
  · rw [dif_pos h, dif_pos h]
    after_reads_at
  · rw [dif_neg h, dif_neg h]
    after_reads_at

/-- The first layers' biases, in the same order. -/
theorem host_b1 (J : Fin 2048) : (V m c main_v10 : Vec Ideal S1x2048 .f32) (ix2 0 J)
    = if h : J.val < 1024 then
        (m ((c : Thread nD τ).loc main_arg11) : Vec Ideal S4x256 .f32) (ix2 ⟨J.val / 256, by omega⟩ ⟨J.val % 256, by omega⟩)
      else (m ((c : Thread nD τ).loc main_arg15) : Vec Ideal S4x256 .f32)
        (ix2 ⟨(J.val - 1024) / 256, by omega⟩ ⟨(J.val - 1024) % 256, by omega⟩) := by
  unfold V V0
  simp only [List.flatten_cons, List.flatten_nil, List.append_nil]
  after_reads_at

/-- A small number wrapped like an index is itself. -/
theorem wrapped (p : Fin 4) : Scalar.select (IntOp.cmpi .slt (BitVec.ofNat 32 p.val) 0#32) (IntOp.addi (BitVec.ofNat 32 p.val) 4#32)
    (BitVec.ofNat 32 p.val) = BitVec.ofNat 32 p.val := by
  fin_cases p <;> rfl

/-- The index words of the gates' second layer, first column: the pool's number. -/
theorem word_0 (p : Fin 4) : (StableHlo.upto hostOps0 (fun b => m (c, b)) 31 (Proc.tc.devRef main_v24) : IVec S4x1 32) (ix2 p 0)
    = BitVec.ofNat 32 p.val := by
  after_reads_at
  exact wrapped p

/-- The index words of the gates' second layer, second column: the pool's number again. -/
theorem word_1 (p : Fin 4) : (StableHlo.upto hostOps0 (fun b => m (c, b)) 31 (Proc.tc.devRef main_v25) : IVec S4x1 32) (ix2 p 0)
    = BitVec.ofNat 32 p.val := by
  after_reads_at
  exact wrapped p

/-- Where an update of the gates' second layer lands. -/
theorem lands (idx : IVec S4x2 32) (hidx : ∀ (p : Fin 4) (a : Fin 2), idx (ix2 p a) = BitVec.ofNat 32 p.val)
    (k : S4x256.Idx) (p : Fin 4) (j : Fin 256) (q : Fin 4) :
    scatter_S4x256x4_S4x2_S4x256_1_02_02_1.resultIdx? k idx = some (ix3 p j q) ↔ k 0 = p ∧ k 1 = j ∧ k 0 = q := by
  rw [Routing.resultIdx?_eq_some]
  have hz : ∀ p : Fin 4, (BitVec.ofNat 32 p.val).toInt = (p.val : Int) := fun p => by fin_cases p <;> rfl
  have s0 : scatter_S4x256x4_S4x2_S4x256_1_02_02_1.start k idx 0 = ((k 0).val : Int) := by
    unfold ScatterDims.start
    rw [dif_pos (by decide)]
    refine Eq.trans (congrArg BitVec.toInt ?_) (hz (k 0))
    refine Eq.trans (congrArg idx ?_) (hidx (k 0) 0)
    funext a; match a with
    | ⟨0, _⟩ => rfl
    | ⟨1, _⟩ => rfl
  have s1 : scatter_S4x256x4_S4x2_S4x256_1_02_02_1.start k idx 1 = 0 := by
    unfold ScatterDims.start
    rw [dif_neg (by decide)]
  have s2 : scatter_S4x256x4_S4x2_S4x256_1_02_02_1.start k idx 2 = ((k 0).val : Int) := by
    unfold ScatterDims.start
    rw [dif_pos (by decide)]
    refine Eq.trans (congrArg BitVec.toInt ?_) (hz (k 0))
    refine Eq.trans (congrArg idx ?_) (hidx (k 0) 1)
    funext a; match a with
    | ⟨0, _⟩ => rfl
    | ⟨1, _⟩ => rfl
  have w0 : scatter_S4x256x4_S4x2_S4x256_1_02_02_1.window k 0 = 0 := by
    unfold ScatterDims.window; rw [dif_neg (by decide)]
  have w1 : scatter_S4x256x4_S4x2_S4x256_1_02_02_1.window k 1 = (k 1).val := by
    unfold ScatterDims.window; rw [dif_pos (by decide)]; rfl
  have w2 : scatter_S4x256x4_S4x2_S4x256_1_02_02_1.window k 2 = 0 := by
    unfold ScatterDims.window; rw [dif_neg (by decide)]
  constructor
  · intro h
    have h0 := h 0; have h1 := h 1; have h2 := h 2
    rw [s0, w0] at h0; rw [s1, w1] at h1; rw [s2, w2] at h2
    refine ⟨Fin.ext ?_, Fin.ext ?_, Fin.ext ?_⟩
    · have : ((k 0).val : Int) + 0 = (p.val : Int) := h0
      omega
    · have : (0 : Int) + ((k 1).val : Int) = (j.val : Int) := h1
      omega
    · have : ((k 0).val : Int) + 0 = (q.val : Int) := h2
      omega
  · rintro ⟨h0, h1, h2⟩ a
    match a with
    | ⟨0, _⟩ =>
      refine (congrArg₂ (fun a b => a + b) s0 (congrArg Nat.cast w0)).trans ?_
      show ((k 0).val : Int) + 0 = (p.val : Int)
      rw [← h0]; omega
    | ⟨1, _⟩ =>
      refine (congrArg₂ (fun a b => a + b) s1 (congrArg Nat.cast w1)).trans ?_
      show (0 : Int) + ((k 1).val : Int) = (j.val : Int)
      rw [← h1]; omega
    | ⟨2, _⟩ =>
      refine (congrArg₂ (fun a b => a + b) s2 (congrArg Nat.cast w2)).trans ?_
      show ((k 0).val : Int) + 0 = (q.val : Int)
      rw [← h2]; omega

/-- Two columns of index words that both hold the row's number, side by side. -/
theorem words (a b : IVec S4x1 32) (ha : ∀ p : Fin 4, a (ix2 p 0) = BitVec.ofNat 32 p.val) (hb : ∀ p : Fin 4, b (ix2 p 0) = BitVec.ofNat 32 p.val)
    (p : Fin 4) (q : Fin 2) : concatenate S4x2 1 [⟨S4x1, a⟩, ⟨S4x1, b⟩] concatenates_S4x1_S4x1_S4x2_d1 (ix2 p q) = BitVec.ofNat 32 p.val := by
  pointwise
  split
  · exact (congrArg (fun z => a (ix2 p z)) (Subsingleton.elim (α := Fin 1) _ _)).trans (ha p)
  · exact (congrArg (fun z => b (ix2 p z)) (Subsingleton.elim (α := Fin 1) _ _)).trans (hb p)

/-- A zero array with each pool's column scattered to that pool's diagonal block. -/
theorem diagonal (idx : IVec S4x2 32) (hidx : ∀ (p : Fin 4) (a : Fin 2), idx (ix2 p a) = BitVec.ofNat 32 p.val)
    (x : Vec Ideal S4x256x4 .f32) (upd : Vec Ideal S4x256 .f32) (p : Fin 4) (j : Fin 256) (k : Fin 4) :
    Host.scatter scatter_S4x256x4_S4x2_S4x256_1_02_02_1 (fun _ b => b) x idx upd (ix3 p j k)
      = if p = k then upd (ix2 p j) else x (ix3 p j k) := by
  by_cases hpk : p = k
  · rw [if_pos hpk]
    refine Routing.scatter_set_hit _ _ _ _ _ _ (fun i hi => ?_) (ix2 p j) ((lands idx hidx _ p j k).2 ⟨rfl, rfl, hpk⟩)
    obtain ⟨h0, h1, _⟩ := (lands idx hidx i p j k).1 hi
    rw [eq_ix2 i, h0, h1]
  · rw [if_neg hpk]
    refine Routing.scatter_set_miss _ _ _ _ _ (fun i hi => ?_)
    obtain ⟨h0, _, h2⟩ := (lands idx hidx i p j k).1 hi
    exact hpk (h0.symm.trans h2)

/-- The gates' second layer is block diagonal: pool `k` reads its own 256 columns. -/
theorem host_w2 (k p : Fin 4) (j : Fin 256) (J : Fin 1024) (hJ : J.val = 256 * p.val + j.val) :
    (V m c main_v29 : Vec Ideal S1024x4 .bf16) (ix2 J k)
    = if p = k then (m ((c : Thread nD τ).loc main_arg12) : Vec Ideal S4x256x1 .f32) (ix3 p j 0) else (0 : EReal) := by
  unfold V V0
  simp only [List.flatten_cons, List.flatten_nil, List.append_nil]
  after_reads_at
  have hp : (⟨J.val / 256, by omega⟩ : Fin 4) = p := Fin.ext (by show J.val / 256 = p.val; omega)
  have hj : (⟨J.val % 256, by omega⟩ : Fin 256) = j := Fin.ext (by show J.val % 256 = j.val; omega)
  refine Eq.trans (congrArg _ (congrArg₂ (fun a b => ix3 a b k) hp hj)) ?_
  refine (diagonal _ (words _ _ (word_0 m c) (word_1 m c)) _ _ p j k).trans ?_
  by_cases hpk : p = k
  · rw [if_pos hpk, if_pos hpk]
    rfl
  · rw [if_neg hpk, if_neg hpk]
    pointwise

end Cert.IdealRun

end
-- ==== Proof.RefPool.lean ====
/-
  The reference, one pool of it.

  The reference computes the same thing four times, once for each pool, from that pool's slice of the weights: a gate and a
  vector of values for every row, the softmax of the gates within each graph, and the sum of the values so weighted. Here
  that computation is named once, over the slices, and read at an index.
-/
module

public import proofs.«01_k».proof.Proof.Gen.ReferenceIdeal.Read
public import Idealize.ShloMosaic.Lib.Pointwise
public import Idealize.ShloMosaic.Lib.Routing.OpsPair
public import Idealize.ShloMosaic.Lib.Routing.OpsSet

@[expose] public section

set_option maxRecDepth 16384

noncomputable section

namespace Cert.RefPool

open Cert.ReferenceIdeal Cert.ReferenceIdeal.Gen
open Idealize.ShloMosaic Idealize.ShloMosaic.TcCoe

/-- The zero the rectifier compares with and the sums start from. -/
def zero : FVec Ideal S_ .f32 := constant S_ .f32 0x00000000#32

/-- The hidden layer of a two-layer network: the rectified affine image of the rows. -/
def hidden (x : FVec Ideal S50000x128 .f32) (w : FVec Ideal S128x256 .f32) (b : FVec Ideal S256 .f32) : FVec Ideal S50000x256 .f32 :=
  maximumf (addf (Host.dotGeneral dot_S50000x128_S128x256_S50000x256_1_0_0_1_n_n none x w)
      (broadcastInDim S50000x256 ![0, 1] bcast_S1x256_S50000x256_0_1 (broadcastInDim S1x256 ![1] bcast_S256_S1x256_1 b)))
    (broadcastInDim S50000x256 ![] bcast_S_S50000x256 zero)

/-- The gates: one number per row. -/
def gates (h : FVec Ideal S50000x256 .f32) (w : FVec Ideal S256x1 .f32) (b : FVec Ideal S1 .f32) : FVec Ideal S50000 .f32 :=
  shapeCast _ (addf (Host.dotGeneral dot_S50000x256_S256x1_S50000x1_1_0_0_1_n_n none h w)
    (broadcastInDim S50000x1 ![0, 1] bcast_S1x1_S50000x1_0_1 (broadcastInDim S1x1 ![1] bcast_S1_S1x1_1 b))) shapeCasts_S50000x1_S50000

/-- The values: 124 numbers per row. -/
def values (h : FVec Ideal S50000x256 .f32) (w : FVec Ideal S256x124 .f32) (b : FVec Ideal S124 .f32) : FVec Ideal S50000x124 .f32 :=
  addf (Host.dotGeneral dot_S50000x256_S256x124_S50000x124_1_0_0_1_n_n none h w)
    (broadcastInDim S50000x124 ![0, 1] bcast_S1x124_S50000x124_0_1 (broadcastInDim S1x124 ![1] bcast_S124_S1x124_1 b))

/-- The exponentials of the gates less the greatest gate. -/
def weights (g : FVec Ideal S50000 .f32) : FVec Ideal S50000 .f32 :=
  Host.exp (subf g (broadcastInDim S50000 ![] bcast_S_S50000
    (Host.reduce FloatOps.maximumf g (constant S_ .f32 0xFF800000#32) reducesTo_S50000_S_d0 h_S_)))

/-- The graph numbers as a column of index words. -/
def column (batch : IVec S50000 32) : IVec S50000x1 32 := broadcastInDim S50000x1 ![0] bcast_S50000_S50000x1_0 batch

/-- The sum of the weights of each graph. -/
def totals (batch : IVec S50000 32) (e : FVec Ideal S50000 .f32) : FVec Ideal S64 .f32 :=
  Host.scatterAdd scatter_S64_S50000x1_S50000_n_0_0_1 (broadcastInDim S64 ![] bcast_S_S64 zero) (column batch) e

/-- The graph numbers, a negative one counted from the end. -/
def wrapped (batch : IVec S50000 32) : IVec S50000 32 :=
  select (cmpi .slt batch (broadcastInDim S50000 ![] bcast_S_S50000 (constantI S_ 32 0#32)))
    (addi batch (broadcastInDim S50000 ![] bcast_S_S50000 (constantI S_ 32 64#32))) batch

/-- A row's share of its graph's total. -/
def shares (batch : IVec S50000 32) (e : FVec Ideal S50000 .f32) : FVec Ideal S50000 .f32 :=
  Host.divf e (addf (Host.gather gather_S64_S50000x1_S50000_n_0_n_n_0_1_1 (totals batch e) (column (wrapped batch)))
    (broadcastInDim S50000 ![] bcast_S_S50000 (constant S_ .f32 0x24E69595#32)))

/-- Each graph's sum of its rows' values by their shares. -/
def mean (batch : IVec S50000 32) (a : FVec Ideal S50000 .f32) (v : FVec Ideal S50000x124 .f32) : FVec Ideal S64x124 .f32 :=
  Host.scatterAdd scatter_S64x124_S50000x1_S50000x124_1_0_0_1 (broadcastInDim S64x124 ![] bcast_S_S64x124 zero) (column batch)
    (mulf (broadcastInDim S50000x124 ![0, 1] bcast_S50000x1_S50000x124_0_1 (broadcastInDim S50000x1 ![0] bcast_S50000_S50000x1_0 a)) v)

/-- One pool. -/
def pool (x : FVec Ideal S50000x128 .f32) (batch : IVec S50000 32) (wg1 : FVec Ideal S128x256 .f32) (bg1 : FVec Ideal S256 .f32)
    (wg2 : FVec Ideal S256x1 .f32) (bg2 : FVec Ideal S1 .f32) (wn1 : FVec Ideal S128x256 .f32) (bn1 : FVec Ideal S256 .f32)
    (wn2 : FVec Ideal S256x124 .f32) (bn2 : FVec Ideal S124 .f32) : FVec Ideal S64x124 .f32 :=
  mean batch (shares batch (weights (gates (hidden x wg1 bg1) wg2 bg2))) (values (hidden x wn1 bn1) wn2 bn2)

section
open Cert.ReferenceIdeal.Read
variable (x0 : FVec Ideal S50000x128 .f32) (x2 : IVec S50000 32) (x10 : FVec Ideal S4x128x256 .f32) (x11 : FVec Ideal S4x256 .f32)
  (x12 : FVec Ideal S4x256x1 .f32) (x13 : FVec Ideal S4x1 .f32) (x14 : FVec Ideal S4x128x256 .f32) (x15 : FVec Ideal S4x256 .f32)
  (x16 : FVec Ideal S4x256x124 .f32) (x17 : FVec Ideal S4x124 .f32)

theorem pool_0 : val_main_v59 (F := Ideal) x0 x2 x10 x11 x12 x13 x14 x15 x16 x17
    = pool x0 x2 (val_main_v1 (F := Ideal) x10) (val_main_v3 (F := Ideal) x11) (val_main_v5 (F := Ideal) x12) (val_main_v7 (F := Ideal) x13)
        (val_main_v9 (F := Ideal) x14) (val_main_v11 (F := Ideal) x15) (val_main_v13 (F := Ideal) x16) (val_main_v15 (F := Ideal) x17) := rfl

theorem pool_1 : val_main_v119 (F := Ideal) x0 x2 x10 x11 x12 x13 x14 x15 x16 x17
    = pool x0 x2 (val_main_v61 (F := Ideal) x10) (val_main_v63 (F := Ideal) x11) (val_main_v65 (F := Ideal) x12) (val_main_v67 (F := Ideal) x13)
        (val_main_v69 (F := Ideal) x14) (val_main_v71 (F := Ideal) x15) (val_main_v73 (F := Ideal) x16) (val_main_v75 (F := Ideal) x17) := rfl

theorem pool_2 : val_main_v179 (F := Ideal) x0 x2 x10 x11 x12 x13 x14 x15 x16 x17
    = pool x0 x2 (val_main_v121 (F := Ideal) x10) (val_main_v123 (F := Ideal) x11) (val_main_v125 (F := Ideal) x12) (val_main_v127 (F := Ideal) x13)
        (val_main_v129 (F := Ideal) x14) (val_main_v131 (F := Ideal) x15) (val_main_v133 (F := Ideal) x16) (val_main_v135 (F := Ideal) x17) := rfl

theorem pool_3 : val_main_v239 (F := Ideal) x0 x2 x10 x11 x12 x13 x14 x15 x16 x17
    = pool x0 x2 (val_main_v181 (F := Ideal) x10) (val_main_v183 (F := Ideal) x11) (val_main_v185 (F := Ideal) x12) (val_main_v187 (F := Ideal) x13)
        (val_main_v189 (F := Ideal) x14) (val_main_v191 (F := Ideal) x15) (val_main_v193 (F := Ideal) x16) (val_main_v195 (F := Ideal) x17) := rfl

end

/-! ## Reads -/

theorem hidden_at (x : FVec Ideal S50000x128 .f32) (w : FVec Ideal S128x256 .f32) (b : FVec Ideal S256 .f32) (r : Fin 50000) (j : Fin 256) :
    hidden x w b (ix2 r j) = max (∑ d : Fin 128, x (ix2 r d) * w (ix2 d j) + b (ix1 j)) (0 : EReal) := by
  pointwise [hidden, zero]

theorem gates_at (h : FVec Ideal S50000x256 .f32) (w : FVec Ideal S256x1 .f32) (b : FVec Ideal S1 .f32) (r : Fin 50000) :
    gates h w b (ix1 r) = ∑ j : Fin 256, h (ix2 r j) * w (ix2 j 0) + b (ix1 0) := by
  pointwise [gates]

theorem values_at (h : FVec Ideal S50000x256 .f32) (w : FVec Ideal S256x124 .f32) (b : FVec Ideal S124 .f32) (r : Fin 50000) (k : Fin 124) :
    values h w b (ix2 r k) = ∑ j : Fin 256, h (ix2 r j) * w (ix2 j k) + b (ix1 k) := by
  pointwise [values]

theorem weights_at (g : FVec Ideal S50000 .f32) (r : Fin 50000) :
    weights g (ix1 r) = Ideal.exp (g (ix1 r) - Finset.univ.sup fun q : Fin 50000 => (g (ix1 q) : EReal)) := by
  pointwise [weights]
  rw [show (Ideal.ofBits FTy.f32 4286578688#32 : EReal) = ⊥ by simp [Ideal.ofBits, Ideal.ieee]]
  rfl

theorem column_at (batch : IVec S50000 32) (r : Fin 50000) : column batch (ix2 r 0) = batch (ix1 r) := by
  pointwise [column]

/-- Where a row's weight lands: at its graph's number, if that is one of the 64. -/
theorem lands_1 (idx : IVec S50000x1 32) (i : S50000.Idx) (g : Fin 64) :
    scatter_S64_S50000x1_S50000_n_0_0_1.resultIdx? i idx = some (ix1 g) ↔ (idx (ix2 (i 0) 0)).toInt = (g.val : ℤ) := by
  rw [Routing.resultIdx?_eq_some]
  have s0 : scatter_S64_S50000x1_S50000_n_0_0_1.start i idx 0 = (idx (ix2 (i 0) 0)).toInt := by
    unfold ScatterDims.start
    rw [dif_pos (by decide)]
    refine congrArg (fun z => (idx z).toInt) (funext fun a => ?_)
    match a with
    | ⟨0, _⟩ => rfl
    | ⟨1, _⟩ => rfl
  have w0 : scatter_S64_S50000x1_S50000_n_0_0_1.window i 0 = 0 := by
    unfold ScatterDims.window; rw [dif_neg (by decide)]
  constructor
  · intro h
    have h0 := h 0
    rw [s0, w0] at h0
    exact (add_zero _).symm.trans h0
  · intro h a
    match a with
    | ⟨0, _⟩ => exact (congrArg₂ (fun a b => a + b) s0 (congrArg Nat.cast w0)).trans ((add_zero _).trans h)

/-- Where a row's weighted value lands: in its graph's row, at its own column. -/
theorem lands_2 (idx : IVec S50000x1 32) (i : S50000x124.Idx) (g : Fin 64) (k : Fin 124) :
    scatter_S64x124_S50000x1_S50000x124_1_0_0_1.resultIdx? i idx = some (ix2 g k)
      ↔ (idx (ix2 (i 0) 0)).toInt = (g.val : ℤ) ∧ i 1 = k := by
  rw [Routing.resultIdx?_eq_some]
  have s0 : scatter_S64x124_S50000x1_S50000x124_1_0_0_1.start i idx 0 = (idx (ix2 (i 0) 0)).toInt := by
    unfold ScatterDims.start
    rw [dif_pos (by decide)]
    refine congrArg (fun z => (idx z).toInt) (funext fun a => ?_)
    match a with
    | ⟨0, _⟩ => rfl
    | ⟨1, _⟩ => rfl
  have s1 : scatter_S64x124_S50000x1_S50000x124_1_0_0_1.start i idx 1 = 0 := by
    unfold ScatterDims.start; rw [dif_neg (by decide)]
  have w0 : scatter_S64x124_S50000x1_S50000x124_1_0_0_1.window i 0 = 0 := by
    unfold ScatterDims.window; rw [dif_neg (by decide)]
  have w1 : scatter_S64x124_S50000x1_S50000x124_1_0_0_1.window i 1 = (i 1).val := by
    unfold ScatterDims.window; rw [dif_pos (by decide)]; rfl
  constructor
  · intro h
    have h0 := h 0; have h1 := h 1
    rw [s0, w0] at h0; rw [s1, w1] at h1
    exact ⟨(add_zero _).symm.trans h0, Fin.ext (Int.ofNat_inj.1 ((zero_add _).symm.trans h1))⟩
  · rintro ⟨h0, h1⟩ a
    match a with
    | ⟨0, _⟩ => exact (congrArg₂ (fun a b => a + b) s0 (congrArg Nat.cast w0)).trans ((add_zero _).trans h0)
    | ⟨1, _⟩ =>
      exact (congrArg₂ (fun a b => a + b) s1 (congrArg Nat.cast w1)).trans
        ((zero_add _).trans (congrArg (fun z : Fin 124 => (z.val : ℤ)) h1))

/-- The rows of graph `g`. -/
def rows (batch : IVec S50000 32) (g : Fin 64) : Finset (Fin 50000) :=
  Finset.univ.filter fun r => (batch (ix1 r)).toInt = (g.val : ℤ)

theorem totals_at (batch : IVec S50000 32) (e : FVec Ideal S50000 .f32) (g : Fin 64) :
    totals batch e (ix1 g) = ∑ r ∈ rows batch g, (e (ix1 r) : EReal) := by
  show (broadcastInDim S64 ![] bcast_S_S64 zero (ix1 g) : EReal) + ∑ j ∈ Finset.univ.filter
    (fun j => scatter_S64_S50000x1_S50000_n_0_0_1.resultIdx? j (column batch) = some (ix1 g)), (e j : EReal) = _
  rw [show (broadcastInDim S64 ![] bcast_S_S64 zero (ix1 g) : EReal) = 0 by pointwise [zero], zero_add]
  refine Finset.sum_nbij' (fun j => j 0) (fun r => ix1 r) (fun j hj => ?_) (fun r hr => ?_) (fun j _ => (eq_ix1 j).symm) (fun _ _ => rfl)
    (fun j _ => congrArg e (eq_ix1 j))
  · have := (lands_1 _ _ _).1 (Finset.mem_filter.1 hj).2
    exact Finset.mem_filter.2 ⟨Finset.mem_univ _, (congrArg BitVec.toInt (column_at _ _)).symm.trans this⟩
  · refine Finset.mem_filter.2 ⟨Finset.mem_univ _, (lands_1 _ _ _).2 ?_⟩
    exact (congrArg BitVec.toInt (column_at _ _)).trans (Finset.mem_filter.1 hr).2

theorem mean_at (batch : IVec S50000 32) (a : FVec Ideal S50000 .f32) (v : FVec Ideal S50000x124 .f32) (g : Fin 64) (k : Fin 124) :
    mean batch a v (ix2 g k) = ∑ r ∈ rows batch g, (a (ix1 r) : EReal) * v (ix2 r k) := by
  show (broadcastInDim S64x124 ![] bcast_S_S64x124 zero (ix2 g k) : EReal) + ∑ j ∈ Finset.univ.filter
    (fun j => scatter_S64x124_S50000x1_S50000x124_1_0_0_1.resultIdx? j (column batch) = some (ix2 g k)),
      ((mulf (broadcastInDim S50000x124 ![0, 1] bcast_S50000x1_S50000x124_0_1 (broadcastInDim S50000x1 ![0] bcast_S50000_S50000x1_0 a)) v
        : FVec Ideal S50000x124 .f32) j : EReal) = _
  rw [show (broadcastInDim S64x124 ![] bcast_S_S64x124 zero (ix2 g k) : EReal) = 0 by pointwise [zero], zero_add]
  refine Finset.sum_nbij' (fun j => j 0) (fun r => ix2 r k) (fun j hj => ?_) (fun r hr => ?_) (fun j hj => ?_) (fun _ _ => rfl)
    (fun j hj => ?_)
  · have := ((lands_2 _ _ _ _).1 (Finset.mem_filter.1 hj).2).1
    exact Finset.mem_filter.2 ⟨Finset.mem_univ _, (congrArg BitVec.toInt (column_at _ _)).symm.trans this⟩
  · refine Finset.mem_filter.2 ⟨Finset.mem_univ _, (lands_2 _ _ _ _).2 ⟨?_, rfl⟩⟩
    exact (congrArg BitVec.toInt (column_at _ _)).trans (Finset.mem_filter.1 hr).2
  · have := ((lands_2 _ _ _ _).1 (Finset.mem_filter.1 hj).2).2
    rw [← this]; exact (eq_ix2 j).symm
  · have := ((lands_2 _ _ _ _).1 (Finset.mem_filter.1 hj).2).2
    obtain ⟨r, q, rfl⟩ : ∃ (r : Fin 50000) (q : Fin 124), j = ix2 r q := ⟨_, _, eq_ix2 j⟩
    obtain rfl : q = k := this
    pointwise

/-- A number below 64 counted from the end when negative is itself. -/
theorem wrap_small (g : Fin 64) : Scalar.select (IntOp.cmpi .slt (BitVec.ofNat 32 g.val) 0#32) (IntOp.addi (BitVec.ofNat 32 g.val) 64#32)
    (BitVec.ofNat 32 g.val) = BitVec.ofNat 32 g.val := by
  revert g
  decide +kernel

/-- A row of graph `g` reads that graph's entry of a table. -/
theorem gather_at (batch : IVec S50000 32) (t : FVec Ideal S64 .f32) (r : Fin 50000) (g : Fin 64) (h : (batch (ix1 r)).toInt = (g.val : ℤ)) :
    Host.gather gather_S64_S50000x1_S50000_n_0_n_n_0_1_1 t (column (wrapped batch)) (ix1 r) = t (ix1 g) := by
  have hb : batch (ix1 r) = BitVec.ofNat 32 g.val := by
    apply BitVec.eq_of_toInt_eq
    rw [h, BitVec.toInt_eq_toNat_cond, BitVec.toNat_ofNat]
    have := g.isLt
    omega
  refine Routing.gather_take1 gather_S64_S50000x1_S50000_n_0_n_n_0_1_1 rfl rfl rfl rfl t _ r g ?_ (by decide)
  refine (column_at _ _).trans ?_
  pointwise [wrapped]
  rw [hb]
  exact wrap_small g

theorem shares_at (batch : IVec S50000 32) (e : FVec Ideal S50000 .f32) (r : Fin 50000) (g : Fin 64) (h : (batch (ix1 r)).toInt = (g.val : ℤ)) :
    shares batch e (ix1 r) = Ideal.div (e (ix1 r)) (∑ q ∈ rows batch g, (e (ix1 q) : EReal) + Ideal.ofBits FTy.f32 619091349#32) := by
  pointwise [shares]
  rw [gather_at batch (totals batch e) r g h, totals_at]

/-- One pool at an index: the sum of the values of the graph's rows, each times its share of the exponentials. -/
theorem pool_at (x : FVec Ideal S50000x128 .f32) (batch : IVec S50000 32) (wg1 : FVec Ideal S128x256 .f32) (bg1 : FVec Ideal S256 .f32)
    (wg2 : FVec Ideal S256x1 .f32) (bg2 : FVec Ideal S1 .f32) (wn1 : FVec Ideal S128x256 .f32) (bn1 : FVec Ideal S256 .f32)
    (wn2 : FVec Ideal S256x124 .f32) (bn2 : FVec Ideal S124 .f32) (g : Fin 64) (k : Fin 124)
    (G : Fin 50000 → EReal) (hG : ∀ r, G r = gates (hidden x wg1 bg1) wg2 bg2 (ix1 r)) :
    pool x batch wg1 bg1 wg2 bg2 wn1 bn1 wn2 bn2 (ix2 g k)
      = ∑ r ∈ rows batch g, Ideal.div (Ideal.exp (G r - Finset.univ.sup G))
          ((∑ q ∈ rows batch g, Ideal.exp (G q - Finset.univ.sup G)) + Ideal.ofBits FTy.f32 619091349#32)
          * (∑ j : Fin 256, hidden x wn1 bn1 (ix2 r j) * wn2 (ix2 j k) + bn2 (ix1 k)) := by
  have hG' : G = fun r => gates (hidden x wg1 bg1) wg2 bg2 (ix1 r) := funext hG
  unfold pool
  rw [mean_at]
  refine Finset.sum_congr rfl fun r hr => ?_
  rw [shares_at _ _ r g (Finset.mem_filter.1 hr).2, values_at, hG']
  simp only [weights_at]

end Cert.RefPool

end
-- ==== Proof.PoolEq.lean ====
/-
  One pool of the kernel is one pool of the reference.

  The kernel lays the four pools' first layers side by side, and makes the gates' second layer block diagonal; the reference
  runs pool by pool. Given that the arrays of the launch hold a pool's weights where the kernel looks for them, the value
  the kernel computes for the pool is the reference's.
-/
module

public import proofs.«01_k».proof.Proof.IdealRead
public import proofs.«01_k».proof.Proof.RefPool

@[expose] public section

noncomputable section

namespace Cert.IdealRun

open Cert.KernelIdeal
open Cert.ReferenceIdeal (S128x256 S256 S256x1 S1 S124)
open Idealize.ShloMosaic Cert.Online Cert.RefPool

/-- The constant added to a denominator is a positive real. -/
theorem eps_pos : ∃ e : ℝ, 0 < e ∧ eps = (e : EReal) := by
  unfold eps
  simp only [Ideal.ofBits, Ideal.ieee]
  rw [if_neg (by decide), if_neg (by decide), if_neg (by decide)]
  exact ⟨_, mul_pos (mul_pos one_pos (Nat.cast_pos.2 (by decide))) (zpow_pos two_pos _), rfl⟩

/-- A sum over the 1024 columns of the gates is a sum over the pools and their 256 columns. -/
theorem sum_columns (f : Fin 1024 → EReal) :
    ∑ j, f j = ∑ p : Fin 4, ∑ j : Fin 256, f ⟨256 * p.val + j.val, by have := p.isLt; have := j.isLt; omega⟩ := by
  rw [← Equiv.sum_comp (finProdFinEquiv (m := 4) (n := 256)) f, Fintype.sum_prod_type]
  refine Finset.sum_congr rfl fun p _ => Finset.sum_congr rfl fun j _ => congrArg f (Fin.ext ?_)
  show j.val + 256 * p.val = 256 * p.val + j.val
  omega

variable (A : Arr) (x : FVec Ideal S50000x128 .f32) (batch : IVec S50000 32) (k : Fin 4)
  (wg1 wn1 : FVec Ideal S128x256 .f32) (bg1 bn1 : FVec Ideal S256 .f32) (wg2 : FVec Ideal S256x1 .f32) (bg2 : FVec Ideal S1 .f32)
  (wn2 : FVec Ideal S256x124 .f32) (bn2 : FVec Ideal S124 .f32)

/-- The arrays of the launch hold the rows, the graph numbers and the weights of pool `k`. -/
structure Holds : Prop where
  x : ∀ r d, A.x (ix2 r d) = x (ix2 r d)
  batch : ∀ r, A.batch (ix2 0 r) = (((batch (ix1 r)).toInt : ℝ) : EReal)
  wg1 : ∀ (d : Fin 128) (j : Fin 256) (J : Fin 2048), J.val = 256 * k.val + j.val → A.w1 (ix2 d J) = wg1 (ix2 d j)
  bg1 : ∀ (j : Fin 256) (J : Fin 2048), J.val = 256 * k.val + j.val → A.b1 (ix2 0 J) = bg1 (ix1 j)
  wn1 : ∀ (d : Fin 128) (j : Fin 256) (J : Fin 2048), J.val = 1024 + 256 * k.val + j.val → A.w1 (ix2 d J) = wn1 (ix2 d j)
  bn1 : ∀ (j : Fin 256) (J : Fin 2048), J.val = 1024 + 256 * k.val + j.val → A.b1 (ix2 0 J) = bn1 (ix1 j)
  wg2 : ∀ (p : Fin 4) (j : Fin 256) (J : Fin 1024), J.val = 256 * p.val + j.val →
    A.w2 (ix2 J k) = if p = k then (wg2 (ix2 j 0) : EReal) else 0
  bg2 : A.b2 (ix2 0 k) = bg2 (ix1 0)
  wn2 : ∀ (j : Fin 256) (d : Fin 124), A.wn (ix3 k j d) = wn2 (ix2 j d)
  bn2 : ∀ d : Fin 124, A.bn (ix3 k 0 d) = bn2 (ix1 d)

variable {A x batch k wg1 wn1 bg1 bn1 wg2 bg2 wn2 bn2}
variable (H : Holds A x batch k wg1 wn1 bg1 bn1 wg2 bg2 wn2 bn2)
include H

theorem Holds.act_gate (r : Fin 50000) (j : Fin 256) (J : Fin 2048) (hJ : J.val = 256 * k.val + j.val) :
    A.act r J = hidden x wg1 bg1 (ix2 r j) := by
  rw [hidden_at]
  unfold Arr.act
  simp only [H.x, H.wg1 _ j J hJ, H.bg1 j J hJ]

theorem Holds.act_value (r : Fin 50000) (j : Fin 256) (J : Fin 2048) (hJ : J.val = 1024 + 256 * k.val + j.val) :
    A.act r J = hidden x wn1 bn1 (ix2 r j) := by
  rw [hidden_at]
  unfold Arr.act
  simp only [H.x, H.wn1 _ j J hJ, H.bn1 j J hJ]

theorem Holds.gate (r : Fin 50000) : A.gate k r = gates (hidden x wg1 bg1) wg2 bg2 (ix1 r) := by
  rw [gates_at]
  unfold Arr.gate
  rw [H.bg2, sum_columns, Finset.sum_eq_single k]
  · refine congrArg (fun z => z + bg2 (ix1 0)) (Finset.sum_congr rfl fun j _ => ?_)
    rw [H.act_gate r j _ rfl, H.wg2 k j _ rfl, if_pos rfl]
  · intro p _ hp
    refine Finset.sum_eq_zero fun j _ => ?_
    rw [H.wg2 p j _ rfl, if_neg hp, mul_zero]
  · exact fun h => absurd (Finset.mem_univ k) h

theorem Holds.val (d : Fin 124) (r : Fin 50000) :
    A.val k d r = ∑ j : Fin 256, hidden x wn1 bn1 (ix2 r j) * wn2 (ix2 j d) := by
  unfold Arr.val
  refine Finset.sum_congr rfl fun j _ => ?_
  rw [H.act_value r j _ rfl, H.wn2]

theorem Holds.members (g : Fin 64) : (Finset.univ.filter (A.member g)) = rows batch g := by
  ext r
  unfold rows
  rw [Finset.mem_filter, Finset.mem_filter]
  refine and_congr_right fun _ => ?_
  unfold Arr.member
  rw [H.batch, EReal.coe_eq_coe_iff]
  exact_mod_cast Iff.rfl

/-- One pool of the kernel is one pool of the reference. -/
theorem Holds.pooled (g : Fin 64) (d : Fin 124) :
    A.pooled k g d = pool x batch wg1 bg1 wg2 bg2 wn1 bn1 wn2 bn2 (ix2 g d) := by
  obtain ⟨e, he, hee⟩ := eps_pos
  rw [pool_at x batch wg1 bg1 wg2 bg2 wn1 bn1 wn2 bn2 g d (A.gate k) H.gate]
  unfold Arr.pooled Arr.closedP Arr.closedS
  rw [show (Ideal.ofBits FTy.f32 619091349#32 : EReal) = (e : EReal) from hee, hee, quotient _ _ _ _ he, H.members, H.bn2]
  refine Finset.sum_congr rfl fun r _ => ?_
  rw [H.val]

end Cert.IdealRun

end
-- ==== Proof.Joined.lean ====
/-
  The joining of the pools and of the seven further columns into one array of 503 columns: the four pools' 124 columns one
  after the other, then the seven columns. The kernel's program joins the transposed and flattened result of the launch with
  the columns; the reference joins eleven arrays. Both are the same function of the pools and the columns.
-/
module

public import proofs.«01_k».proof.Proof.RefPool
public import proofs.«01_k».proof.Proof.Gen.KernelIdeal.Frame
public import Idealize.ShloMosaic.Lib.Pointwise
public import Idealize.ShloMosaic.Lib.StableHlo.ReadAt

@[expose] public section

set_option maxRecDepth 16384

noncomputable section

namespace Cert.Joined

open Idealize.ShloMosaic Idealize.ShloMosaic.TcCoe

/-- The joined array: the pools' columns, then the seven. -/
def joined (P : Fin 4 → Fin 64 → Fin 124 → EReal) (a : Fin 7 → Fin 64 → EReal) (r : Fin 64) (j : Fin 503) : EReal :=
  if h : j.val < 496 then P ⟨j.val / 124, by omega⟩ r ⟨j.val % 124, by omega⟩ else a ⟨j.val - 496, by omega⟩ r

theorem joined_pool (P : Fin 4 → Fin 64 → Fin 124 → EReal) (a : Fin 7 → Fin 64 → EReal) (r : Fin 64) (k : Fin 4) (d : Fin 124) (j : Fin 503)
    (hj : j.val = 124 * k.val + d.val) : joined P a r j = P k r d := by
  unfold joined
  rw [dif_pos (by omega)]
  exact congrArg₂ (fun k d => P k r d) (Fin.ext (by show j.val / 124 = k.val; omega)) (Fin.ext (by show j.val % 124 = d.val; omega))

theorem joined_column (P : Fin 4 → Fin 64 → Fin 124 → EReal) (a : Fin 7 → Fin 64 → EReal) (r : Fin 64) (q : Fin 7) (j : Fin 503)
    (hj : j.val = 496 + q.val) : joined P a r j = a q r := by
  unfold joined
  rw [dif_neg (by omega)]
  exact congrArg (fun q => a q r) (Fin.ext (by show j.val - 496 = q.val; omega))

/-- A column of the joined array belongs to a pool or is one of the seven. -/
theorem cases (j : Fin 503) : (∃ (k : Fin 4) (d : Fin 124), j.val = 124 * k.val + d.val) ∨ ∃ q : Fin 7, j.val = 496 + q.val := by
  by_cases h : j.val < 496
  · exact .inl ⟨⟨j.val / 124, by omega⟩, ⟨j.val % 124, by omega⟩, by show j.val = 124 * (j.val / 124) + j.val % 124; omega⟩
  · exact .inr ⟨⟨j.val - 496, by omega⟩, by show j.val = 496 + (j.val - 496); omega⟩

section
open Cert.KernelIdeal Cert.KernelIdeal.Gen

/-- The host lines behind the launch, of any contents of the buffers. -/
theorem kernel_at (W : Valuation τ sig (Elt Ideal)) (r : Fin 64) (j : Fin 503) :
    (StableHlo.after hostOps1 W (Proc.devRef .tc main_v36) : FVec Ideal S64x503 .f32) (ix2 r j)
      = joined (fun k r d => (W (Proc.devRef .tc main_v33) : FVec Ideal S4x64x124 .f32) (ix3 k r d))
          (fun q r => ![(W (Proc.devRef .tc main_arg3) : FVec Ideal S64x1 .f32) (ix2 r 0), (W (Proc.devRef .tc main_arg4) : FVec Ideal S64x1 .f32) (ix2 r 0),
            (W (Proc.devRef .tc main_arg5) : FVec Ideal S64x1 .f32) (ix2 r 0), (W (Proc.devRef .tc main_arg6) : FVec Ideal S64x1 .f32) (ix2 r 0),
            (W (Proc.devRef .tc main_arg7) : FVec Ideal S64x1 .f32) (ix2 r 0), (W (Proc.devRef .tc main_arg8) : FVec Ideal S64x1 .f32) (ix2 r 0),
            (W (Proc.devRef .tc main_arg9) : FVec Ideal S64x1 .f32) (ix2 r 0)] q) r j := by
  after_reads_at
  rcases cases j with ⟨k, d, hj⟩ | ⟨q, hj⟩
  · rw [joined_pool _ _ r k d j hj, dif_pos (by omega)]
    after_reads_at
    exact congrArg₂ (fun k d => (W (Proc.devRef .tc main_v33) : FVec Ideal S4x64x124 .f32) (ix3 k r d))
      (Fin.ext (by show j.val / 124 = k.val; omega)) (Fin.ext (by show j.val % 124 = d.val; omega))
  · rw [joined_column _ _ r q j hj, dif_neg (by omega)]
    obtain ⟨q, hq⟩ := q
    obtain ⟨j, hj'⟩ := j
    obtain rfl : j = 496 + q := hj
    interval_cases q <;> rfl

end

section
open Cert.ReferenceIdeal Cert.ReferenceIdeal.Gen

/-- The joining of eleven arrays. -/
theorem reference_at (p0 p1 p2 p3 : FVec Ideal S64x124 .f32) (a0 a1 a2 a3 a4 a5 a6 : FVec Ideal S64x1 .f32) (r : Fin 64) (j : Fin 503) :
    (concatenate S64x503 1 [⟨S64x124, p0⟩, ⟨S64x124, p1⟩, ⟨S64x124, p2⟩, ⟨S64x124, p3⟩, ⟨S64x1, a0⟩, ⟨S64x1, a1⟩, ⟨S64x1, a2⟩, ⟨S64x1, a3⟩,
        ⟨S64x1, a4⟩, ⟨S64x1, a5⟩, ⟨S64x1, a6⟩]
        concatenates_S64x124_S64x124_S64x124_S64x124_S64x1_S64x1_S64x1_S64x1_S64x1_S64x1_S64x1_S64x503_d1 : FVec Ideal S64x503 .f32) (ix2 r j)
      = joined (fun k r d => ![p0 (ix2 r d), p1 (ix2 r d), p2 (ix2 r d), p3 (ix2 r d)] k)
          (fun q r => ![a0 (ix2 r 0), a1 (ix2 r 0), a2 (ix2 r 0), a3 (ix2 r 0), a4 (ix2 r 0), a5 (ix2 r 0), a6 (ix2 r 0)] q) r j := by
  pointwise
  rcases cases j with ⟨k, d, hj⟩ | ⟨q, hj⟩
  · rw [joined_pool _ _ r k d j hj]
    obtain ⟨k, hk⟩ := k
    have hd := d.isLt
    change j.val = 124 * k + d.val at hj
    interval_cases k
    · rw [dif_pos (by omega)]
      exact congrArg (fun z => p0 (ix2 r z)) (Fin.ext (by show j.val = d.val; omega))
    · rw [dif_neg (by omega), dif_pos (by omega)]
      exact congrArg (fun z => p1 (ix2 r z)) (Fin.ext (by show j.val - 124 = d.val; omega))
    · rw [dif_neg (by omega), dif_neg (by omega), dif_pos (by omega)]
      exact congrArg (fun z => p2 (ix2 r z)) (Fin.ext (by show j.val - 124 - 124 = d.val; omega))
    · rw [dif_neg (by omega), dif_neg (by omega), dif_neg (by omega), dif_pos (by omega)]
      exact congrArg (fun z => p3 (ix2 r z)) (Fin.ext (by show j.val - 124 - 124 - 124 = d.val; omega))
  · rw [joined_column _ _ r q j hj]
    obtain ⟨q, hq⟩ := q
    obtain ⟨j, hj'⟩ := j
    obtain rfl : j = 496 + q := hj
    interval_cases q <;> rfl

end

end Cert.Joined

end
-- ==== Proof.IdealPools.lean ====
/-
  What the program's result holds, in terms of the arguments: each pool's columns are that pool of the reference.
-/
module

public import proofs.«01_k».proof.Proof.IdealEnd
public import proofs.«01_k».proof.Proof.IdealHost
public import proofs.«01_k».proof.Proof.PoolEq
public import proofs.«01_k».proof.Proof.Joined

@[expose] public section

set_option maxRecDepth 16384

noncomputable section

namespace Cert.IdealRun

open Cert.KernelIdeal Cert.KernelIdeal.Gen
open Cert.ReferenceIdeal (S128x256 S256 S256x1 S1 S124)
open Cert.ReferenceIdeal.Read
open Idealize.ShloMosaic Idealize.ShloMosaic.TcCoe Cert.RefPool

/-! ## The reference's slices, read at an index -/

section

/-- The slices are pool `k`'s part of the weights. -/
structure Slices (x10 x14 : FVec Ideal S4x128x256 .f32) (x11 x15 : FVec Ideal S4x256 .f32)
    (x12 : FVec Ideal S4x256x1 .f32) (x13 : FVec Ideal S4x1 .f32) (x16 : FVec Ideal S4x256x124 .f32) (x17 : FVec Ideal S4x124 .f32) (k : Fin 4)
    (wg1 wn1 : FVec Ideal S128x256 .f32) (bg1 bn1 : FVec Ideal S256 .f32) (wg2 : FVec Ideal S256x1 .f32) (bg2 : FVec Ideal S1 .f32)
    (wn2 : FVec Ideal S256x124 .f32) (bn2 : FVec Ideal S124 .f32) : Prop where
  wg1 : ∀ (d : Fin 128) (j : Fin 256), wg1 (ix2 d j) = x10 (ix3 k d j)
  bg1 : ∀ j : Fin 256, bg1 (ix1 j) = x11 (ix2 k j)
  wg2 : ∀ j : Fin 256, wg2 (ix2 j 0) = x12 (ix3 k j 0)
  bg2 : bg2 (ix1 0) = x13 (ix2 k 0)
  wn1 : ∀ (d : Fin 128) (j : Fin 256), wn1 (ix2 d j) = x14 (ix3 k d j)
  bn1 : ∀ j : Fin 256, bn1 (ix1 j) = x15 (ix2 k j)
  wn2 : ∀ (j : Fin 256) (d : Fin 124), wn2 (ix2 j d) = x16 (ix3 k j d)
  bn2 : ∀ d : Fin 124, bn2 (ix1 d) = x17 (ix2 k d)

variable (x10 x14 : FVec Ideal S4x128x256 .f32) (x11 x15 : FVec Ideal S4x256 .f32) (x12 : FVec Ideal S4x256x1 .f32) (x13 : FVec Ideal S4x1 .f32)
  (x16 : FVec Ideal S4x256x124 .f32) (x17 : FVec Ideal S4x124 .f32)

theorem slices_0 : Slices x10 x14 x11 x15 x12 x13 x16 x17 0 (val_main_v1 (F := Ideal) x10) (val_main_v9 (F := Ideal) x14) (val_main_v3 (F := Ideal) x11)
    (val_main_v11 (F := Ideal) x15) (val_main_v5 (F := Ideal) x12) (val_main_v7 (F := Ideal) x13) (val_main_v13 (F := Ideal) x16) (val_main_v15 (F := Ideal) x17) where
  wg1 d j := by pointwise [val_main_v1, val_main_v0]
  bg1 j := by pointwise [val_main_v3, val_main_v2]
  wg2 j := by pointwise [val_main_v5, val_main_v4]
  bg2 := by pointwise [val_main_v7, val_main_v6]
  wn1 d j := by pointwise [val_main_v9, val_main_v8]
  bn1 j := by pointwise [val_main_v11, val_main_v10]
  wn2 j d := by pointwise [val_main_v13, val_main_v12]
  bn2 d := by pointwise [val_main_v15, val_main_v14]

theorem slices_1 : Slices x10 x14 x11 x15 x12 x13 x16 x17 1 (val_main_v61 (F := Ideal) x10) (val_main_v69 (F := Ideal) x14) (val_main_v63 (F := Ideal) x11)
    (val_main_v71 (F := Ideal) x15) (val_main_v65 (F := Ideal) x12) (val_main_v67 (F := Ideal) x13) (val_main_v73 (F := Ideal) x16) (val_main_v75 (F := Ideal) x17) where
  wg1 d j := by pointwise [val_main_v61, val_main_v60]
  bg1 j := by pointwise [val_main_v63, val_main_v62]
  wg2 j := by pointwise [val_main_v65, val_main_v64]
  bg2 := by pointwise [val_main_v67, val_main_v66]
  wn1 d j := by pointwise [val_main_v69, val_main_v68]
  bn1 j := by pointwise [val_main_v71, val_main_v70]
  wn2 j d := by pointwise [val_main_v73, val_main_v72]
  bn2 d := by pointwise [val_main_v75, val_main_v74]

theorem slices_2 : Slices x10 x14 x11 x15 x12 x13 x16 x17 2 (val_main_v121 (F := Ideal) x10) (val_main_v129 (F := Ideal) x14) (val_main_v123 (F := Ideal) x11)
    (val_main_v131 (F := Ideal) x15) (val_main_v125 (F := Ideal) x12) (val_main_v127 (F := Ideal) x13) (val_main_v133 (F := Ideal) x16) (val_main_v135 (F := Ideal) x17) where
  wg1 d j := by pointwise [val_main_v121, val_main_v120]
  bg1 j := by pointwise [val_main_v123, val_main_v122]
  wg2 j := by pointwise [val_main_v125, val_main_v124]
  bg2 := by pointwise [val_main_v127, val_main_v126]
  wn1 d j := by pointwise [val_main_v129, val_main_v128]
  bn1 j := by pointwise [val_main_v131, val_main_v130]
  wn2 j d := by pointwise [val_main_v133, val_main_v132]
  bn2 d := by pointwise [val_main_v135, val_main_v134]

theorem slices_3 : Slices x10 x14 x11 x15 x12 x13 x16 x17 3 (val_main_v181 (F := Ideal) x10) (val_main_v189 (F := Ideal) x14) (val_main_v183 (F := Ideal) x11)
    (val_main_v191 (F := Ideal) x15) (val_main_v185 (F := Ideal) x12) (val_main_v187 (F := Ideal) x13) (val_main_v193 (F := Ideal) x16) (val_main_v195 (F := Ideal) x17) where
  wg1 d j := by pointwise [val_main_v181, val_main_v180]
  bg1 j := by pointwise [val_main_v183, val_main_v182]
  wg2 j := by pointwise [val_main_v185, val_main_v184]
  bg2 := by pointwise [val_main_v187, val_main_v186]
  wn1 d j := by pointwise [val_main_v189, val_main_v188]
  bn1 j := by pointwise [val_main_v191, val_main_v190]
  wn2 j d := by pointwise [val_main_v193, val_main_v192]
  bn2 d := by pointwise [val_main_v195, val_main_v194]
end

/-! ## The launch's arrays -/

variable (m : (ℓ : Loc nD τ sig) → Buf (Elt Ideal) ℓ) (c : Dev nD)

/-- If the buffers read as the host lines make them, they hold pool `k`'s weights where the kernel looks for them. -/
theorem holds_of {k : Fin 4} {wg1 wn1 : FVec Ideal S128x256 .f32} {bg1 bn1 : FVec Ideal S256 .f32} {wg2 : FVec Ideal S256x1 .f32} {bg2 : FVec Ideal S1 .f32}
    {wn2 : FVec Ideal S256x124 .f32} {bn2 : FVec Ideal S124 .f32} (W : (b : Ref sig .tc) → Buf (Elt Ideal) ((c : Thread nD τ).loc b))
    {x0 : FVec Ideal S50000x128 .f32} {x2 : IVec S50000 32}
    {x10 x14 : FVec Ideal S4x128x256 .f32} {x11 x15 : FVec Ideal S4x256 .f32} {x12 : FVec Ideal S4x256x1 .f32} {x13 : FVec Ideal S4x1 .f32}
    {x16 : FVec Ideal S4x256x124 .f32} {x17 : FVec Ideal S4x124 .f32}
    (hx : W main_arg0 = x0)
    (hbatch : ∀ row : Fin 50000, (W main_v1 : Vec Ideal S1x50000 .f32) (ix2 0 row) = (((x2 (ix1 row)).toInt : ℝ) : EReal))
    (hw1 : ∀ (d : Fin 128) (J : Fin 2048), (W main_v7 : Vec Ideal S128x2048 .bf16) (ix2 d J)
      = if h : J.val < 1024 then x10 (ix3 ⟨J.val / 256, by omega⟩ d ⟨J.val % 256, by omega⟩)
        else x14 (ix3 ⟨(J.val - 1024) / 256, by omega⟩ d ⟨(J.val - 1024) % 256, by omega⟩))
    (hb1 : ∀ J : Fin 2048, (W main_v10 : Vec Ideal S1x2048 .f32) (ix2 0 J)
      = if h : J.val < 1024 then x11 (ix2 ⟨J.val / 256, by omega⟩ ⟨J.val % 256, by omega⟩)
        else x15 (ix2 ⟨(J.val - 1024) / 256, by omega⟩ ⟨(J.val - 1024) % 256, by omega⟩))
    (hw2 : ∀ (k p : Fin 4) (j : Fin 256) (J : Fin 1024), J.val = 256 * p.val + j.val →
      (W main_v29 : Vec Ideal S1024x4 .bf16) (ix2 J k) = if p = k then x12 (ix3 p j 0) else (0 : EReal))
    (hb2 : ∀ k : Fin 4, (W main_v30 : Vec Ideal S1x4 .f32) (ix2 0 k) = x13 (ix2 k 0))
    (hwn : ∀ (k : Fin 4) (j : Fin 256) (d : Fin 124), (W main_v32 : Vec Ideal S4x256x124 .bf16) (ix3 k j d) = x16 (ix3 k j d))
    (hbn : ∀ (k : Fin 4) (d : Fin 124), (W main_v31 : Vec Ideal S4x1x124 .f32) (ix3 k 0 d) = x17 (ix2 k d))
    (h : Slices x10 x14 x11 x15 x12 x13 x16 x17 k wg1 wn1 bg1 bn1 wg2 bg2 wn2 bn2) :
    Holds (arrOf c W) x0 x2 k wg1 wn1 bg1 bn1 wg2 bg2 wn2 bn2 where
  x r d := congrFun hx (ix2 r d)
  batch r := hbatch r
  wg1 d j J hJ := by
    refine (hw1 d J).trans ?_
    have hj := j.isLt
    have hk := k.isLt
    rw [dif_pos (by omega), h.wg1]
    exact congrArg₂ (fun a b => x10 (ix3 a d b))
      (Fin.ext (by show J.val / 256 = k.val; omega)) (Fin.ext (by show J.val % 256 = j.val; omega))
  bg1 j J hJ := by
    refine (hb1 J).trans ?_
    have hj := j.isLt
    have hk := k.isLt
    rw [dif_pos (by omega), h.bg1]
    exact congrArg₂ (fun a b => x11 (ix2 a b))
      (Fin.ext (by show J.val / 256 = k.val; omega)) (Fin.ext (by show J.val % 256 = j.val; omega))
  wn1 d j J hJ := by
    refine (hw1 d J).trans ?_
    have hj := j.isLt
    have hk := k.isLt
    rw [dif_neg (by omega), h.wn1]
    exact congrArg₂ (fun a b => x14 (ix3 a d b))
      (Fin.ext (by show (J.val - 1024) / 256 = k.val; omega)) (Fin.ext (by show (J.val - 1024) % 256 = j.val; omega))
  bn1 j J hJ := by
    refine (hb1 J).trans ?_
    have hj := j.isLt
    have hk := k.isLt
    rw [dif_neg (by omega), h.bn1]
    exact congrArg₂ (fun a b => x15 (ix2 a b))
      (Fin.ext (by show (J.val - 1024) / 256 = k.val; omega)) (Fin.ext (by show (J.val - 1024) % 256 = j.val; omega))
  wg2 p j J hJ := by
    refine (hw2 k p j J hJ).trans ?_
    by_cases hp : p = k
    · rw [if_pos hp, if_pos hp, h.wg2, hp]
    · rw [if_neg hp, if_neg hp]
  bg2 := (hb2 k).trans h.bg2.symm
  wn2 j d := (hwn k j d).trans (h.wn2 j d).symm
  bn2 d := (hbn k d).trans (h.bn2 d).symm

/-- The arrays of the launch hold pool `k`'s weights where the kernel looks for them. -/
theorem holds {k : Fin 4} {wg1 wn1 : FVec Ideal S128x256 .f32} {bg1 bn1 : FVec Ideal S256 .f32} {wg2 : FVec Ideal S256x1 .f32} {bg2 : FVec Ideal S1 .f32}
    {wn2 : FVec Ideal S256x124 .f32} {bn2 : FVec Ideal S124 .f32}
    (h : Slices (m ((c : Thread nD τ).loc main_arg10)) (m ((c : Thread nD τ).loc main_arg14)) (m ((c : Thread nD τ).loc main_arg11))
      (m ((c : Thread nD τ).loc main_arg15)) (m ((c : Thread nD τ).loc main_arg12)) (m ((c : Thread nD τ).loc main_arg13))
      (m ((c : Thread nD τ).loc main_arg16)) (m ((c : Thread nD τ).loc main_arg17)) k wg1 wn1 bg1 bn1 wg2 bg2 wn2 bn2) :
    Holds (arr m c) (m ((c : Thread nD τ).loc main_arg0)) (m ((c : Thread nD τ).loc main_arg2)) k wg1 wn1 bg1 bn1 wg2 bg2 wn2 bn2 :=
  holds_of c (V m c) (V_main_arg0 m c) (host_batch m c) (host_w1 m c) (host_b1 m c) (host_w2 m c) (host_b2 m c) (host_wn m c) (host_bn m c) h

/-- The buffers behind the launch: the result array holds the pools' result. -/
theorem behind_result : Pipeline.withArrays (cfgs 0).spec c (V0 m c) (fun w => (dats m 0 c).arrAt w (cfgs 0).N) (Proc.devRef .tc main_v33)
    = (arr m c).result :=
  (Pipeline.withArrays_arr spec0 (by decide) c (V0 m c) (fun w => (dats m 0 c).arrAt w (cfgs 0).N) 8).trans (final m c)

/-- The program's result, at an index. -/
theorem outcome_at (r : Fin 64) (j : Fin 503) : (outcome m c : FVec Ideal S64x503 .f32) (ix2 r j)
    = Joined.joined (fun k r d => (arr m c).pooled k r d)
        (fun q r => ![(m ((c : Thread nD τ).loc main_arg3) : FVec Ideal S64x1 .f32) (ix2 r 0), (m ((c : Thread nD τ).loc main_arg4) : FVec Ideal S64x1 .f32) (ix2 r 0),
          (m ((c : Thread nD τ).loc main_arg5) : FVec Ideal S64x1 .f32) (ix2 r 0), (m ((c : Thread nD τ).loc main_arg6) : FVec Ideal S64x1 .f32) (ix2 r 0),
          (m ((c : Thread nD τ).loc main_arg7) : FVec Ideal S64x1 .f32) (ix2 r 0), (m ((c : Thread nD τ).loc main_arg8) : FVec Ideal S64x1 .f32) (ix2 r 0),
          (m ((c : Thread nD τ).loc main_arg9) : FVec Ideal S64x1 .f32) (ix2 r 0)] q) r j := by
  unfold outcome Pipeline.afterTail₀
  simp only [List.flatten_cons, List.flatten_nil, List.append_nil]
  have other : ∀ b : Ref sig .tc, (∀ w, Pipeline.arrRef spec0 w ≠ b) → V m c b = m ((c : Thread nD τ).loc b) →
      Pipeline.withArrays (cfgs 0).spec c (V0 m c) (fun w => (dats m 0 c).arrAt w (cfgs 0).N) (Proc.devRef .tc b) = m ((c : Thread nD τ).loc b) :=
    fun b hb hV => (Pipeline.withArrays_of_ne _ c (V0 m c) _ b hb).trans hV
  rw [Joined.kernel_at, behind_result, other main_arg3 (by decide) (V_main_arg3 m c), other main_arg4 (by decide) (V_main_arg4 m c),
    other main_arg5 (by decide) (V_main_arg5 m c), other main_arg6 (by decide) (V_main_arg6 m c), other main_arg7 (by decide) (V_main_arg7 m c),
    other main_arg8 (by decide) (V_main_arg8 m c), other main_arg9 (by decide) (V_main_arg9 m c)]
  rfl

/-- The program's result is the reference's function of the arguments. -/
theorem outcome_eq : (outcome m c : FVec Ideal S64x503 .f32)
    = val_main_v240 (F := Ideal) (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12))
        (m ((c : Thread nD τ).loc main_arg13)) (m ((c : Thread nD τ).loc main_arg14)) (m ((c : Thread nD τ).loc main_arg15))
        (m ((c : Thread nD τ).loc main_arg16)) (m ((c : Thread nD τ).loc main_arg17)) := by
  funext i
  obtain ⟨r, j, rfl⟩ : ∃ (r : Fin 64) (j : Fin 503), i = ix2 r j := ⟨_, _, eq_ix2 i⟩
  refine (outcome_at m c r j).trans ?_
  unfold val_main_v240
  refine Eq.trans ?_ (Joined.reference_at _ _ _ _ _ _ _ _ _ _ _ r j).symm
  refine congrArg (fun P => Joined.joined P _ r j) (funext fun k => funext fun g => funext fun d => ?_)
  rw [pool_0, pool_1, pool_2, pool_3]
  match k with
  | ⟨0, _⟩ => exact (holds m c (slices_0 _ _ _ _ _ _ _ _)).pooled g d
  | ⟨1, _⟩ => exact (holds m c (slices_1 _ _ _ _ _ _ _ _)).pooled g d
  | ⟨2, _⟩ => exact (holds m c (slices_2 _ _ _ _ _ _ _ _)).pooled g d
  | ⟨3, _⟩ => exact (holds m c (slices_3 _ _ _ _ _ _ _ _)).pooled g d

end Cert.IdealRun

end
-- ==== Proof.lean ====
/-
  The certificate: the attention pooling kernel terminates and leaves its arguments alone, its idealization is the kernel
  over the extended reals, and that computes what the plain reference computes.

  Where the parts are: the frame of the kernel in KernelBody and KernelFrame; the idealized kernel's grid points in
  IdealState, IdealFirst, IdealMid, IdealLast and IdealCall; the running softmax in Online; what one point computes in
  IdealRead; the launch in IdealBlocks, IdealSound, IdealRun and IdealEnd; the host lines in IdealHost and Joined; the
  reference in RefPool; the equation in PoolEq and IdealPools.
-/
module

public import proofs.«01_k».proof.Defs
public import proofs.«01_k».proof.Proof.KernelFrame
public import proofs.«01_k».proof.Proof.IdealPools
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

/-- The kernel's frame. -/
theorem frame_kernel : Cert.quiescent_Kernel := fun m g _ => Cert.KernelRun.frame m g

/-- The idealized kernel's frame. -/
theorem frame_ideal : Cert.quiescent_KernelIdeal := fun m g _ =>
  (θ_run _ _ _).mono (fun _ h => ⟨fun c => (h.1 c).2, h.2⟩) (Cert.IdealRun.ends m g)

/-- The reference's frame. -/
theorem frame_reference : Cert.quiescent_ReferenceIdeal := fun m g _ =>
  (θ_run _ _ _).mono (fun r h => ⟨fun c => (h c).2, sem_eq_zero_of_no_sems (by decide) r.2⟩) (Cert.ReferenceIdeal.Value.run m g)

/-- The mask's constant is the word that minus infinity stands for. -/
theorem preserves : Cert.preserves_Kernel_KernelIdeal :=
  IdealRules.named_const.statement Cert.KernelIdeal.κ "mask" .f32 0xF149F2CA#32 ⊥ rfl

/-- The idealized kernel and the reference end with the same result. -/
theorem algebraic : Cert.algebraic_KernelIdeal_ReferenceIdeal := by
  intro m g m' g' _ hargs
  refine ⟨Cert.IdealRun.outcome m, (θ_run _ _ _).mono (fun _ h c => h.1 c) (Cert.IdealRun.ends m g),
    (θ_run _ _ _).mono (fun _ h c => ⟨(h c).1.trans ?_, (h c).2⟩) (Cert.ReferenceIdeal.Value.run m' g')⟩
  obtain ⟨h0, _, h2, h3, h4, h5, h6, h7, h8, h9, h10, h11, h12, h13, h14, h15, h16, h17⟩ := hargs c
  refine (Cert.ReferenceIdeal.Read.val_main_v240_eq _).trans (Eq.trans ?_ (Cert.IdealRun.outcome_eq m c).symm)
  simp only [StableHlo.launchContents_devRef, h0, h2, h3, h4, h5, h6, h7, h8, h9, h10, h11, h12, h13, h14, h15, h16, h17]

theorem claim : Cert.Claim :=
  ⟨Cert.Kernel.Gen.facts, Cert.KernelIdeal.Gen.facts, Cert.ReferenceIdeal.Gen.facts,
    frame_kernel, frame_ideal, frame_reference, preserves, algebraic⟩

end Cert.Proof

end
